-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionIdeal_finite_qkv [hPre_finite_qkv : Cert.Pre_finite_qkv.Facts] (m : (ℓ : Loc Cert.RetentionIdeal.nD Cert.RetentionIdeal.τ Cert.RetentionIdeal.sig) → Buf (Elt Ideal) ℓ) : Prop :=
  ∀ c : Dev Cert.RetentionIdeal.nD,
    (Cert.Pre_finite_qkv.fn (F := Ideal) (m ((c.tc : Thread Cert.RetentionIdeal.nD Cert.RetentionIdeal.τ).loc Cert.RetentionIdeal.main_arg0))) = (fun _ => 1#1)

def Pre_RefRetentionIdeal (m : (ℓ : Loc Cert.RefRetentionIdeal.nD Cert.RefRetentionIdeal.τ Cert.RefRetentionIdeal.sig) → Buf (Elt Ideal) ℓ) : Prop :=
  True

def Pre_RefRetentionIdeal_finite_qkv [hPre_finite_qkv : Cert.Pre_finite_qkv.Facts] (m : (ℓ : Loc Cert.RefRetentionIdeal.nD Cert.RefRetentionIdeal.τ Cert.RefRetentionIdeal.sig) → Buf (Elt Ideal) ℓ) : Prop :=
  ∀ c : Dev Cert.RefRetentionIdeal.nD,
    (Cert.Pre_finite_qkv.fn (F := Ideal) (m ((c.tc : Thread Cert.RefRetentionIdeal.nD Cert.RefRetentionIdeal.τ).loc Cert.RefRetentionIdeal.main_arg0))) = (fun _ => 1#1)

def Pre_MlpInner (m : (ℓ : Loc Cert.MlpInner.nD Cert.MlpInner.τ Cert.MlpInner.sig) → Buf (Elt Bits) ℓ) : Prop :=
  True

def Pre_MlpInnerIdeal (m : (ℓ : Loc Cert.MlpInnerIdeal.nD Cert.MlpInnerIdeal.τ Cert.MlpInnerIdeal.sig) → Buf (Elt Ideal) ℓ) : Prop :=
  True

def Pre_RefMlpInnerIdeal (m : (ℓ : Loc Cert.RefMlpInnerIdeal.nD Cert.RefMlpInnerIdeal.τ Cert.RefMlpInnerIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2)
      ∧ r.2.mem ((c.tc : Thread Cert.RefInProjIdeal.nD Cert.RefInProjIdeal.τ).loc Cert.RefInProjIdeal.main_arg3) = m ((c.tc : Thread Cert.RefInProjIdeal.nD Cert.RefInProjIdeal.τ).loc Cert.RefInProjIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1)
      ∧ r.2.mem ((c.tc : Thread Cert.RefMixOutIdeal.nD Cert.RefMixOutIdeal.τ).loc Cert.RefMixOutIdeal.main_arg2) = m ((c.tc : Thread Cert.RefMixOutIdeal.nD Cert.RefMixOutIdeal.τ).loc Cert.RefMixOutIdeal.main_arg2)
      ∧ r.2.mem ((c.tc : Thread Cert.RefMixOutIdeal.nD Cert.RefMixOutIdeal.τ).loc Cert.RefMixOutIdeal.main_arg3) = m ((c.tc : Thread Cert.RefMixOutIdeal.nD Cert.RefMixOutIdeal.τ).loc Cert.RefMixOutIdeal.main_arg3)
      ∧ r.2.mem ((c.tc : Thread Cert.RefMixOutIdeal.nD Cert.RefMixOutIdeal.τ).loc Cert.RefMixOutIdeal.main_arg4) = m ((c.tc : Thread Cert.RefMixOutIdeal.nD Cert.RefMixOutIdeal.τ).loc Cert.RefMixOutIdeal.main_arg4)
      ∧ r.2.mem ((c.tc : Thread Cert.RefMixOutIdeal.nD Cert.RefMixOutIdeal.τ).loc Cert.RefMixOutIdeal.main_arg5) = m ((c.tc : Thread Cert.RefMixOutIdeal.nD Cert.RefMixOutIdeal.τ).loc Cert.RefMixOutIdeal.main_arg5)
      ∧ r.2.mem ((c.tc : Thread Cert.RefMixOutIdeal.nD Cert.RefMixOutIdeal.τ).loc Cert.RefMixOutIdeal.main_arg6) = m ((c.tc : Thread Cert.RefMixOutIdeal.nD Cert.RefMixOutIdeal.τ).loc Cert.RefMixOutIdeal.main_arg6)
      ∧ r.2.mem ((c.tc : Thread Cert.RefMixOutIdeal.nD Cert.RefMixOutIdeal.τ).loc Cert.RefMixOutIdeal.main_arg7) = m ((c.tc : Thread Cert.RefMixOutIdeal.nD Cert.RefMixOutIdeal.τ).loc Cert.RefMixOutIdeal.main_arg7))
      ∧ r.2.sem = fun _ => 0)

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ r.2.sem = fun _ => 0)

def quiescent_RetentionIdeal_pre_finite_qkv [hRetentionIdeal : Cert.RetentionIdeal.Facts] [hPre_finite_qkv : Cert.Pre_finite_qkv.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal_finite_qkv m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ r.2.sem = fun _ => 0)

def quiescent_RefRetentionIdeal [hRefRetentionIdeal : Cert.RefRetentionIdeal.Facts] : Prop :=
  ∀ (m : (ℓ : Loc Cert.RefRetentionIdeal.nD Cert.RefRetentionIdeal.τ Cert.RefRetentionIdeal.sig) → Buf (Elt Ideal) ℓ) (g : Dev Cert.RefRetentionIdeal.nD → PrngReg), Pre_RefRetentionIdeal m →
    θ_run (Cert.RefRetentionIdeal.defs (F := Ideal)) (onTc (τ := Cert.RefRetentionIdeal.τ) (Cert.RefRetentionIdeal.main (F := Ideal))) ⟨m, fun _ => 0, g⟩ (fun r => (∀ c : Dev Cert.RefRetentionIdeal.nD,
      r.2.mem ((c.tc : Thread Cert.RefRetentionIdeal.nD Cert.RefRetentionIdeal.τ).loc Cert.RefRetentionIdeal.main_arg0) = m ((c.tc : Thread Cert.RefRetentionIdeal.nD Cert.RefRetentionIdeal.τ).loc Cert.RefRetentionIdeal.main_arg0))
      ∧ r.2.sem = fun _ => 0)

def quiescent_RefRetentionIdeal_pre_finite_qkv [hRefRetentionIdeal : Cert.RefRetentionIdeal.Facts] [hPre_finite_qkv : Cert.Pre_finite_qkv.Facts] : Prop :=
  ∀ (m : (ℓ : Loc Cert.RefRetentionIdeal.nD Cert.RefRetentionIdeal.τ Cert.RefRetentionIdeal.sig) → Buf (Elt Ideal) ℓ) (g : Dev Cert.RefRetentionIdeal.nD → PrngReg), Pre_RefRetentionIdeal_finite_qkv m →
    θ_run (Cert.RefRetentionIdeal.defs (F := Ideal)) (onTc (τ := Cert.RefRetentionIdeal.τ) (Cert.RefRetentionIdeal.main (F := Ideal))) ⟨m, fun _ => 0, g⟩ (fun r => (∀ c : Dev Cert.RefRetentionIdeal.nD,
      r.2.mem ((c.tc : Thread Cert.RefRetentionIdeal.nD Cert.RefRetentionIdeal.τ).loc Cert.RefRetentionIdeal.main_arg0) = m ((c.tc : Thread Cert.RefRetentionIdeal.nD Cert.RefRetentionIdeal.τ).loc Cert.RefRetentionIdeal.main_arg0))
      ∧ r.2.sem = fun _ => 0)

def quiescent_MlpInner [hMlpInner : Cert.MlpInner.Facts] : Prop :=
  ∀ (m : (ℓ : Loc Cert.MlpInner.nD Cert.MlpInner.τ Cert.MlpInner.sig) → Buf (Elt Bits) ℓ) (g : Dev Cert.MlpInner.nD → PrngReg), Pre_MlpInner m →
    θ_run (Cert.MlpInner.defs (F := Bits)) (onTc (τ := Cert.MlpInner.τ) (Cert.MlpInner.main (F := Bits))) ⟨m, fun _ => 0, g⟩ (fun r => (∀ c : Dev Cert.MlpInner.nD,
      r.2.mem ((c.tc : Thread Cert.MlpInner.nD Cert.MlpInner.τ).loc Cert.MlpInner.main_arg0) = m ((c.tc : Thread Cert.MlpInner.nD Cert.MlpInner.τ).loc Cert.MlpInner.main_arg0)
      ∧ r.2.mem ((c.tc : Thread Cert.MlpInner.nD Cert.MlpInner.τ).loc Cert.MlpInner.main_arg1) = m ((c.tc : Thread Cert.MlpInner.nD Cert.MlpInner.τ).loc Cert.MlpInner.main_arg1)
      ∧ r.2.mem ((c.tc : Thread Cert.MlpInner.nD Cert.MlpInner.τ).loc Cert.MlpInner.main_arg2) = m ((c.tc : Thread Cert.MlpInner.nD Cert.MlpInner.τ).loc Cert.MlpInner.main_arg2)
      ∧ r.2.mem ((c.tc : Thread Cert.MlpInner.nD Cert.MlpInner.τ).loc Cert.MlpInner.main_arg3) = m ((c.tc : Thread Cert.MlpInner.nD Cert.MlpInner.τ).loc Cert.MlpInner.main_arg3)
      ∧ r.2.mem ((c.tc : Thread Cert.MlpInner.nD Cert.MlpInner.τ).loc Cert.MlpInner.main_arg4) = m ((c.tc : Thread Cert.MlpInner.nD Cert.MlpInner.τ).loc Cert.MlpInner.main_arg4)
      ∧ r.2.mem ((c.tc : Thread Cert.MlpInner.nD Cert.MlpInner.τ).loc Cert.MlpInner.main_arg5) = m ((c.tc : Thread Cert.MlpInner.nD Cert.MlpInner.τ).loc Cert.MlpInner.main_arg5))
      ∧ r.2.sem = fun _ => 0)

def quiescent_MlpInnerIdeal [hMlpInnerIdeal : Cert.MlpInnerIdeal.Facts] : Prop :=
  ∀ (m : (ℓ : Loc Cert.MlpInnerIdeal.nD Cert.MlpInnerIdeal.τ Cert.MlpInnerIdeal.sig) → Buf (Elt Ideal) ℓ) (g : Dev Cert.MlpInnerIdeal.nD → PrngReg), Pre_MlpInnerIdeal m →
    θ_run (Cert.MlpInnerIdeal.defs (F := Ideal)) (onTc (τ := Cert.MlpInnerIdeal.τ) (Cert.MlpInnerIdeal.main (F := Ideal))) ⟨m, fun _ => 0, g⟩ (fun r => (∀ c : Dev Cert.MlpInnerIdeal.nD,
      r.2.mem ((c.tc : Thread Cert.MlpInnerIdeal.nD Cert.MlpInnerIdeal.τ).loc Cert.MlpInnerIdeal.main_arg0) = m ((c.tc : Thread Cert.MlpInnerIdeal.nD Cert.MlpInnerIdeal.τ).loc Cert.MlpInnerIdeal.main_arg0)
      ∧ r.2.mem ((c.tc : Thread Cert.MlpInnerIdeal.nD Cert.MlpInnerIdeal.τ).loc Cert.MlpInnerIdeal.main_arg1) = m ((c.tc : Thread Cert.MlpInnerIdeal.nD Cert.MlpInnerIdeal.τ).loc Cert.MlpInnerIdeal.main_arg1)
      ∧ r.2.mem ((c.tc : Thread Cert.MlpInnerIdeal.nD Cert.MlpInnerIdeal.τ).loc Cert.MlpInnerIdeal.main_arg2) = m ((c.tc : Thread Cert.MlpInnerIdeal.nD Cert.MlpInnerIdeal.τ).loc Cert.MlpInnerIdeal.main_arg2)
      ∧ r.2.mem ((c.tc : Thread Cert.MlpInnerIdeal.nD Cert.MlpInnerIdeal.τ).loc Cert.MlpInnerIdeal.main_arg3) = m ((c.tc : Thread Cert.MlpInnerIdeal.nD Cert.MlpInnerIdeal.τ).loc Cert.MlpInnerIdeal.main_arg3)
      ∧ r.2.mem ((c.tc : Thread Cert.MlpInnerIdeal.nD Cert.MlpInnerIdeal.τ).loc Cert.MlpInnerIdeal.main_arg4) = m ((c.tc : Thread Cert.MlpInnerIdeal.nD Cert.MlpInnerIdeal.τ).loc Cert.MlpInnerIdeal.main_arg4)
      ∧ r.2.mem ((c.tc : Thread Cert.MlpInnerIdeal.nD Cert.MlpInnerIdeal.τ).loc Cert.MlpInnerIdeal.main_arg5) = m ((c.tc : Thread Cert.MlpInnerIdeal.nD Cert.MlpInnerIdeal.τ).loc Cert.MlpInnerIdeal.main_arg5))
      ∧ r.2.sem = fun _ => 0)

def quiescent_RefMlpInnerIdeal [hRefMlpInnerIdeal : Cert.RefMlpInnerIdeal.Facts] : Prop :=
  ∀ (m : (ℓ : Loc Cert.RefMlpInnerIdeal.nD Cert.RefMlpInnerIdeal.τ Cert.RefMlpInnerIdeal.sig) → Buf (Elt Ideal) ℓ) (g : Dev Cert.RefMlpInnerIdeal.nD → PrngReg), Pre_RefMlpInnerIdeal m →
    θ_run (Cert.RefMlpInnerIdeal.defs (F := Ideal)) (onTc (τ := Cert.RefMlpInnerIdeal.τ) (Cert.RefMlpInnerIdeal.main (F := Ideal))) ⟨m, fun _ => 0, g⟩ (fun r => (∀ c : Dev Cert.RefMlpInnerIdeal.nD,
      r.2.mem ((c.tc : Thread Cert.RefMlpInnerIdeal.nD Cert.RefMlpInnerIdeal.τ).loc Cert.RefMlpInnerIdeal.main_arg0) = m ((c.tc : Thread Cert.RefMlpInnerIdeal.nD Cert.RefMlpInnerIdeal.τ).loc Cert.RefMlpInnerIdeal.main_arg0)
      ∧ r.2.mem ((c.tc : Thread Cert.RefMlpInnerIdeal.nD Cert.RefMlpInnerIdeal.τ).loc Cert.RefMlpInnerIdeal.main_arg1) = m ((c.tc : Thread Cert.RefMlpInnerIdeal.nD Cert.RefMlpInnerIdeal.τ).loc Cert.RefMlpInnerIdeal.main_arg1)
      ∧ r.2.mem ((c.tc : Thread Cert.RefMlpInnerIdeal.nD Cert.RefMlpInnerIdeal.τ).loc Cert.RefMlpInnerIdeal.main_arg2) = m ((c.tc : Thread Cert.RefMlpInnerIdeal.nD Cert.RefMlpInnerIdeal.τ).loc Cert.RefMlpInnerIdeal.main_arg2)
      ∧ r.2.mem ((c.tc : Thread Cert.RefMlpInnerIdeal.nD Cert.RefMlpInnerIdeal.τ).loc Cert.RefMlpInnerIdeal.main_arg3) = m ((c.tc : Thread Cert.RefMlpInnerIdeal.nD Cert.RefMlpInnerIdeal.τ).loc Cert.RefMlpInnerIdeal.main_arg3)
      ∧ r.2.mem ((c.tc : Thread Cert.RefMlpInnerIdeal.nD Cert.RefMlpInnerIdeal.τ).loc Cert.RefMlpInnerIdeal.main_arg4) = m ((c.tc : Thread Cert.RefMlpInnerIdeal.nD Cert.RefMlpInnerIdeal.τ).loc Cert.RefMlpInnerIdeal.main_arg4)
      ∧ r.2.mem ((c.tc : Thread Cert.RefMlpInnerIdeal.nD Cert.RefMlpInnerIdeal.τ).loc Cert.RefMlpInnerIdeal.main_arg5) = m ((c.tc : Thread Cert.RefMlpInnerIdeal.nD Cert.RefMlpInnerIdeal.τ).loc Cert.RefMlpInnerIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1)
      ∧ r.2.mem ((c.tc : Thread Cert.RefAdaIdeal.nD Cert.RefAdaIdeal.τ).loc Cert.RefAdaIdeal.main_arg2) = m ((c.tc : Thread Cert.RefAdaIdeal.nD Cert.RefAdaIdeal.τ).loc Cert.RefAdaIdeal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)
      ∧ m' ((c.tc : Thread Cert.RefMlpIdeal.nD Cert.RefMlpIdeal.τ).loc Cert.RefMlpIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v47) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4)
          ∧ r.2.mem ((c.tc : Thread Cert.RefMlpIdeal.nD Cert.RefMlpIdeal.τ).loc Cert.RefMlpIdeal.main_arg5) = m' ((c.tc : Thread Cert.RefMlpIdeal.nD Cert.RefMlpIdeal.τ).loc Cert.RefMlpIdeal.main_arg5))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)
      ∧ m' ((c.tc : Thread Cert.RefInProjIdeal.nD Cert.RefInProjIdeal.τ).loc Cert.RefInProjIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v26) = v0 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2)
          ∧ r.2.mem ((c.tc : Thread Cert.RefInProjIdeal.nD Cert.RefInProjIdeal.τ).loc Cert.RefInProjIdeal.main_arg3) = m' ((c.tc : Thread Cert.RefInProjIdeal.nD Cert.RefInProjIdeal.τ).loc Cert.RefInProjIdeal.main_arg3))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)
      ∧ m' ((c.tc : Thread Cert.RefMixOutIdeal.nD Cert.RefMixOutIdeal.τ).loc Cert.RefMixOutIdeal.main_arg2) = m ((c.tc : Thread Cert.MixOutIdeal.nD Cert.MixOutIdeal.τ).loc Cert.MixOutIdeal.main_arg2)
      ∧ m' ((c.tc : Thread Cert.RefMixOutIdeal.nD Cert.RefMixOutIdeal.τ).loc Cert.RefMixOutIdeal.main_arg3) = m ((c.tc : Thread Cert.MixOutIdeal.nD Cert.MixOutIdeal.τ).loc Cert.MixOutIdeal.main_arg3)
      ∧ m' ((c.tc : Thread Cert.RefMixOutIdeal.nD Cert.RefMixOutIdeal.τ).loc Cert.RefMixOutIdeal.main_arg4) = m ((c.tc : Thread Cert.MixOutIdeal.nD Cert.MixOutIdeal.τ).loc Cert.MixOutIdeal.main_arg4)
      ∧ m' ((c.tc : Thread Cert.RefMixOutIdeal.nD Cert.RefMixOutIdeal.τ).loc Cert.RefMixOutIdeal.main_arg5) = m ((c.tc : Thread Cert.MixOutIdeal.nD Cert.MixOutIdeal.τ).loc Cert.MixOutIdeal.main_arg5)
      ∧ m' ((c.tc : Thread Cert.RefMixOutIdeal.nD Cert.RefMixOutIdeal.τ).loc Cert.RefMixOutIdeal.main_arg6) = m ((c.tc : Thread Cert.MixOutIdeal.nD Cert.MixOutIdeal.τ).loc Cert.MixOutIdeal.main_arg6)
      ∧ m' ((c.tc : Thread Cert.RefMixOutIdeal.nD Cert.RefMixOutIdeal.τ).loc Cert.RefMixOutIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v29) = v0 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1)
          ∧ r.2.mem ((c.tc : Thread Cert.RefMixOutIdeal.nD Cert.RefMixOutIdeal.τ).loc Cert.RefMixOutIdeal.main_arg2) = m' ((c.tc : Thread Cert.RefMixOutIdeal.nD Cert.RefMixOutIdeal.τ).loc Cert.RefMixOutIdeal.main_arg2)
          ∧ r.2.mem ((c.tc : Thread Cert.RefMixOutIdeal.nD Cert.RefMixOutIdeal.τ).loc Cert.RefMixOutIdeal.main_arg3) = m' ((c.tc : Thread Cert.RefMixOutIdeal.nD Cert.RefMixOutIdeal.τ).loc Cert.RefMixOutIdeal.main_arg3)
          ∧ r.2.mem ((c.tc : Thread Cert.RefMixOutIdeal.nD Cert.RefMixOutIdeal.τ).loc Cert.RefMixOutIdeal.main_arg4) = m' ((c.tc : Thread Cert.RefMixOutIdeal.nD Cert.RefMixOutIdeal.τ).loc Cert.RefMixOutIdeal.main_arg4)
          ∧ r.2.mem ((c.tc : Thread Cert.RefMixOutIdeal.nD Cert.RefMixOutIdeal.τ).loc Cert.RefMixOutIdeal.main_arg5) = m' ((c.tc : Thread Cert.RefMixOutIdeal.nD Cert.RefMixOutIdeal.τ).loc Cert.RefMixOutIdeal.main_arg5)
          ∧ r.2.mem ((c.tc : Thread Cert.RefMixOutIdeal.nD Cert.RefMixOutIdeal.τ).loc Cert.RefMixOutIdeal.main_arg6) = m' ((c.tc : Thread Cert.RefMixOutIdeal.nD Cert.RefMixOutIdeal.τ).loc Cert.RefMixOutIdeal.main_arg6)
          ∧ r.2.mem ((c.tc : Thread Cert.RefMixOutIdeal.nD Cert.RefMixOutIdeal.τ).loc Cert.RefMixOutIdeal.main_arg7) = m' ((c.tc : Thread Cert.RefMixOutIdeal.nD Cert.RefMixOutIdeal.τ).loc Cert.RefMixOutIdeal.main_arg7))

def preserves_Retention_RetentionIdeal : Prop :=
  True

def algebraic_RetentionIdeal_RefRetentionIdeal_pre_finite_qkv [hRetentionIdeal : Cert.RetentionIdeal.Facts] [hRefRetentionIdeal : Cert.RefRetentionIdeal.Facts] [hPre_finite_qkv : Cert.Pre_finite_qkv.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RefRetentionIdeal.nD Cert.RefRetentionIdeal.τ Cert.RefRetentionIdeal.sig) → Buf (Elt Ideal) ℓ) (g' : Dev Cert.RefRetentionIdeal.nD → PrngReg), Pre_RetentionIdeal_finite_qkv m →
    (∀ c : Dev Cert.RetentionIdeal.nD,
      m' ((c.tc : Thread Cert.RefRetentionIdeal.nD Cert.RefRetentionIdeal.τ).loc Cert.RefRetentionIdeal.main_arg0) = m ((c.tc : Thread Cert.RetentionIdeal.nD Cert.RetentionIdeal.τ).loc Cert.RetentionIdeal.main_arg0)) →
    ∃ (v0 : (c : Dev Cert.RetentionIdeal.nD) → Buf (Elt Ideal) ((c.tc : Thread Cert.RetentionIdeal.nD Cert.RetentionIdeal.τ).loc Cert.RetentionIdeal.main_v27)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v27) = v0 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ θ_run (Cert.RefRetentionIdeal.defs (F := Ideal)) (onTc (τ := Cert.RefRetentionIdeal.τ) (Cert.RefRetentionIdeal.main (F := Ideal))) ⟨m', fun _ => 0, g'⟩ (fun r => ∀ c : Dev Cert.RefRetentionIdeal.nD,
          r.2.mem ((c.tc : Thread Cert.RefRetentionIdeal.nD Cert.RefRetentionIdeal.τ).loc Cert.RefRetentionIdeal.main_v126) = v0 c
          ∧ r.2.mem ((c.tc : Thread Cert.RefRetentionIdeal.nD Cert.RefRetentionIdeal.τ).loc Cert.RefRetentionIdeal.main_arg0) = m' ((c.tc : Thread Cert.RefRetentionIdeal.nD Cert.RefRetentionIdeal.τ).loc Cert.RefRetentionIdeal.main_arg0))

def preserves_MlpInner_MlpInnerIdeal : Prop :=
  True

def algebraic_MlpInnerIdeal_RefMlpInnerIdeal [hMlpInnerIdeal : Cert.MlpInnerIdeal.Facts] [hRefMlpInnerIdeal : Cert.RefMlpInnerIdeal.Facts] : Prop :=
  ∀ (m : (ℓ : Loc Cert.MlpInnerIdeal.nD Cert.MlpInnerIdeal.τ Cert.MlpInnerIdeal.sig) → Buf (Elt Ideal) ℓ) (g : Dev Cert.MlpInnerIdeal.nD → PrngReg)
    (m' : (ℓ : Loc Cert.RefMlpInnerIdeal.nD Cert.RefMlpInnerIdeal.τ Cert.RefMlpInnerIdeal.sig) → Buf (Elt Ideal) ℓ) (g' : Dev Cert.RefMlpInnerIdeal.nD → PrngReg), Pre_MlpInnerIdeal m →
    (∀ c : Dev Cert.MlpInnerIdeal.nD,
      m' ((c.tc : Thread Cert.RefMlpInnerIdeal.nD Cert.RefMlpInnerIdeal.τ).loc Cert.RefMlpInnerIdeal.main_arg0) = m ((c.tc : Thread Cert.MlpInnerIdeal.nD Cert.MlpInnerIdeal.τ).loc Cert.MlpInnerIdeal.main_arg0)
      ∧ m' ((c.tc : Thread Cert.RefMlpInnerIdeal.nD Cert.RefMlpInnerIdeal.τ).loc Cert.RefMlpInnerIdeal.main_arg1) = m ((c.tc : Thread Cert.MlpInnerIdeal.nD Cert.MlpInnerIdeal.τ).loc Cert.MlpInnerIdeal.main_arg1)
      ∧ m' ((c.tc : Thread Cert.RefMlpInnerIdeal.nD Cert.RefMlpInnerIdeal.τ).loc Cert.RefMlpInnerIdeal.main_arg2) = m ((c.tc : Thread Cert.MlpInnerIdeal.nD Cert.MlpInnerIdeal.τ).loc Cert.MlpInnerIdeal.main_arg2)
      ∧ m' ((c.tc : Thread Cert.RefMlpInnerIdeal.nD Cert.RefMlpInnerIdeal.τ).loc Cert.RefMlpInnerIdeal.main_arg3) = m ((c.tc : Thread Cert.MlpInnerIdeal.nD Cert.MlpInnerIdeal.τ).loc Cert.MlpInnerIdeal.main_arg3)
      ∧ m' ((c.tc : Thread Cert.RefMlpInnerIdeal.nD Cert.RefMlpInnerIdeal.τ).loc Cert.RefMlpInnerIdeal.main_arg4) = m ((c.tc : Thread Cert.MlpInnerIdeal.nD Cert.MlpInnerIdeal.τ).loc Cert.MlpInnerIdeal.main_arg4)
      ∧ m' ((c.tc : Thread Cert.RefMlpInnerIdeal.nD Cert.RefMlpInnerIdeal.τ).loc Cert.RefMlpInnerIdeal.main_arg5) = m ((c.tc : Thread Cert.MlpInnerIdeal.nD Cert.MlpInnerIdeal.τ).loc Cert.MlpInnerIdeal.main_arg5)) →
    ∃ (v0 : (c : Dev Cert.MlpInnerIdeal.nD) → Buf (Elt Ideal) ((c.tc : Thread Cert.MlpInnerIdeal.nD Cert.MlpInnerIdeal.τ).loc Cert.MlpInnerIdeal.main_v4)),
      θ_run (Cert.MlpInnerIdeal.defs (F := Ideal)) (onTc (τ := Cert.MlpInnerIdeal.τ) (Cert.MlpInnerIdeal.main (F := Ideal))) ⟨m, fun _ => 0, g⟩ (fun r => ∀ c : Dev Cert.MlpInnerIdeal.nD,
          r.2.mem ((c.tc : Thread Cert.MlpInnerIdeal.nD Cert.MlpInnerIdeal.τ).loc Cert.MlpInnerIdeal.main_v4) = v0 c
          ∧ r.2.mem ((c.tc : Thread Cert.MlpInnerIdeal.nD Cert.MlpInnerIdeal.τ).loc Cert.MlpInnerIdeal.main_arg0) = m ((c.tc : Thread Cert.MlpInnerIdeal.nD Cert.MlpInnerIdeal.τ).loc Cert.MlpInnerIdeal.main_arg0)
          ∧ r.2.mem ((c.tc : Thread Cert.MlpInnerIdeal.nD Cert.MlpInnerIdeal.τ).loc Cert.MlpInnerIdeal.main_arg1) = m ((c.tc : Thread Cert.MlpInnerIdeal.nD Cert.MlpInnerIdeal.τ).loc Cert.MlpInnerIdeal.main_arg1)
          ∧ r.2.mem ((c.tc : Thread Cert.MlpInnerIdeal.nD Cert.MlpInnerIdeal.τ).loc Cert.MlpInnerIdeal.main_arg2) = m ((c.tc : Thread Cert.MlpInnerIdeal.nD Cert.MlpInnerIdeal.τ).loc Cert.MlpInnerIdeal.main_arg2)
          ∧ r.2.mem ((c.tc : Thread Cert.MlpInnerIdeal.nD Cert.MlpInnerIdeal.τ).loc Cert.MlpInnerIdeal.main_arg3) = m ((c.tc : Thread Cert.MlpInnerIdeal.nD Cert.MlpInnerIdeal.τ).loc Cert.MlpInnerIdeal.main_arg3)
          ∧ r.2.mem ((c.tc : Thread Cert.MlpInnerIdeal.nD Cert.MlpInnerIdeal.τ).loc Cert.MlpInnerIdeal.main_arg4) = m ((c.tc : Thread Cert.MlpInnerIdeal.nD Cert.MlpInnerIdeal.τ).loc Cert.MlpInnerIdeal.main_arg4)
          ∧ r.2.mem ((c.tc : Thread Cert.MlpInnerIdeal.nD Cert.MlpInnerIdeal.τ).loc Cert.MlpInnerIdeal.main_arg5) = m ((c.tc : Thread Cert.MlpInnerIdeal.nD Cert.MlpInnerIdeal.τ).loc Cert.MlpInnerIdeal.main_arg5))
      ∧ θ_run (Cert.RefMlpInnerIdeal.defs (F := Ideal)) (onTc (τ := Cert.RefMlpInnerIdeal.τ) (Cert.RefMlpInnerIdeal.main (F := Ideal))) ⟨m', fun _ => 0, g'⟩ (fun r => ∀ c : Dev Cert.RefMlpInnerIdeal.nD,
          r.2.mem ((c.tc : Thread Cert.RefMlpInnerIdeal.nD Cert.RefMlpInnerIdeal.τ).loc Cert.RefMlpInnerIdeal.main_v34) = v0 c
          ∧ r.2.mem ((c.tc : Thread Cert.RefMlpInnerIdeal.nD Cert.RefMlpInnerIdeal.τ).loc Cert.RefMlpInnerIdeal.main_arg0) = m' ((c.tc : Thread Cert.RefMlpInnerIdeal.nD Cert.RefMlpInnerIdeal.τ).loc Cert.RefMlpInnerIdeal.main_arg0)
          ∧ r.2.mem ((c.tc : Thread Cert.RefMlpInnerIdeal.nD Cert.RefMlpInnerIdeal.τ).loc Cert.RefMlpInnerIdeal.main_arg1) = m' ((c.tc : Thread Cert.RefMlpInnerIdeal.nD Cert.RefMlpInnerIdeal.τ).loc Cert.RefMlpInnerIdeal.main_arg1)
          ∧ r.2.mem ((c.tc : Thread Cert.RefMlpInnerIdeal.nD Cert.RefMlpInnerIdeal.τ).loc Cert.RefMlpInnerIdeal.main_arg2) = m' ((c.tc : Thread Cert.RefMlpInnerIdeal.nD Cert.RefMlpInnerIdeal.τ).loc Cert.RefMlpInnerIdeal.main_arg2)
          ∧ r.2.mem ((c.tc : Thread Cert.RefMlpInnerIdeal.nD Cert.RefMlpInnerIdeal.τ).loc Cert.RefMlpInnerIdeal.main_arg3) = m' ((c.tc : Thread Cert.RefMlpInnerIdeal.nD Cert.RefMlpInnerIdeal.τ).loc Cert.RefMlpInnerIdeal.main_arg3)
          ∧ r.2.mem ((c.tc : Thread Cert.RefMlpInnerIdeal.nD Cert.RefMlpInnerIdeal.τ).loc Cert.RefMlpInnerIdeal.main_arg4) = m' ((c.tc : Thread Cert.RefMlpInnerIdeal.nD Cert.RefMlpInnerIdeal.τ).loc Cert.RefMlpInnerIdeal.main_arg4)
          ∧ r.2.mem ((c.tc : Thread Cert.RefMlpInnerIdeal.nD Cert.RefMlpInnerIdeal.τ).loc Cert.RefMlpInnerIdeal.main_arg5) = m' ((c.tc : Thread Cert.RefMlpInnerIdeal.nD Cert.RefMlpInnerIdeal.τ).loc Cert.RefMlpInnerIdeal.main_arg5))

def preserves_Ada_AdaIdeal : Prop :=
  True

def algebraic_AdaIdeal_RefAdaIdeal [hAdaIdeal : Cert.AdaIdeal.Facts] [hRefAdaIdeal : Cert.RefAdaIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_AdaIdeal m →
    (∀ c : Dev Cert.AdaIdeal.nD,
      m' ((c.tc : Thread Cert.RefAdaIdeal.nD Cert.RefAdaIdeal.τ).loc Cert.RefAdaIdeal.main_arg0) = m ((c.tc : Thread Cert.AdaIdeal.nD Cert.AdaIdeal.τ).loc Cert.AdaIdeal.main_arg0)
      ∧ m' ((c.tc : Thread Cert.RefAdaIdeal.nD Cert.RefAdaIdeal.τ).loc Cert.RefAdaIdeal.main_arg1) = m ((c.tc : Thread Cert.AdaIdeal.nD Cert.AdaIdeal.τ).loc Cert.AdaIdeal.main_arg1)
      ∧ m' ((c.tc : Thread Cert.RefAdaIdeal.nD Cert.RefAdaIdeal.τ).loc Cert.RefAdaIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v5) = v0 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1)
          ∧ r.2.mem ((c.tc : Thread Cert.RefAdaIdeal.nD Cert.RefAdaIdeal.τ).loc Cert.RefAdaIdeal.main_arg2) = m' ((c.tc : Thread Cert.RefAdaIdeal.nD Cert.RefAdaIdeal.τ).loc Cert.RefAdaIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hRefMlpIdeal : Cert.RefMlpIdeal.Facts) (hInProj : Cert.InProj.Facts) (hInProjIdeal : Cert.InProjIdeal.Facts) (hRefInProjIdeal : Cert.RefInProjIdeal.Facts) (hMixOut : Cert.MixOut.Facts) (hMixOutIdeal : Cert.MixOutIdeal.Facts) (hRefMixOutIdeal : Cert.RefMixOutIdeal.Facts) (hRetention : Cert.Retention.Facts) (hRetentionIdeal : Cert.RetentionIdeal.Facts) (hRefRetentionIdeal : Cert.RefRetentionIdeal.Facts) (hMlpInner : Cert.MlpInner.Facts) (hMlpInnerIdeal : Cert.MlpInnerIdeal.Facts) (hRefMlpInnerIdeal : Cert.RefMlpInnerIdeal.Facts) (hAda : Cert.Ada.Facts) (hAdaIdeal : Cert.AdaIdeal.Facts) (hRefAdaIdeal : Cert.RefAdaIdeal.Facts) (hPre_finite_qk : Cert.Pre_finite_qk.Facts) (hPre_finite_qkv : Cert.Pre_finite_qkv.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Mlp (hMlp := hMlp)
    ∧ quiescent_MlpIdeal (hMlpIdeal := hMlpIdeal)
    ∧ quiescent_RefMlpIdeal (hRefMlpIdeal := hRefMlpIdeal)
    ∧ quiescent_InProj (hInProj := hInProj)
    ∧ quiescent_InProjIdeal (hInProjIdeal := hInProjIdeal)
    ∧ quiescent_RefInProjIdeal (hRefInProjIdeal := hRefInProjIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_Retention (hRetention := hRetention)
    ∧ quiescent_RetentionIdeal (hRetentionIdeal := hRetentionIdeal)
    ∧ quiescent_RetentionIdeal_pre_finite_qkv (hRetentionIdeal := hRetentionIdeal) (hPre_finite_qkv := hPre_finite_qkv)
    ∧ quiescent_RefRetentionIdeal (hRefRetentionIdeal := hRefRetentionIdeal)
    ∧ quiescent_RefRetentionIdeal_pre_finite_qkv (hRefRetentionIdeal := hRefRetentionIdeal) (hPre_finite_qkv := hPre_finite_qkv)
    ∧ quiescent_MlpInner (hMlpInner := hMlpInner)
    ∧ quiescent_MlpInnerIdeal (hMlpInnerIdeal := hMlpInnerIdeal)
    ∧ quiescent_RefMlpInnerIdeal (hRefMlpInnerIdeal := hRefMlpInnerIdeal)
    ∧ quiescent_Ada (hAda := hAda)
    ∧ quiescent_AdaIdeal (hAdaIdeal := hAdaIdeal)
    ∧ quiescent_RefAdaIdeal (hRefAdaIdeal := hRefAdaIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Mlp_MlpIdeal
    ∧ algebraic_MlpIdeal_RefMlpIdeal (hMlpIdeal := hMlpIdeal) (hRefMlpIdeal := hRefMlpIdeal)
    ∧ preserves_InProj_InProjIdeal
    ∧ algebraic_InProjIdeal_RefInProjIdeal (hInProjIdeal := hInProjIdeal) (hRefInProjIdeal := hRefInProjIdeal)
    ∧ preserves_MixOut_MixOutIdeal
    ∧ algebraic_MixOutIdeal_RefMixOutIdeal (hMixOutIdeal := hMixOutIdeal) (hRefMixOutIdeal := hRefMixOutIdeal)
    ∧ preserves_Retention_RetentionIdeal
    ∧ algebraic_RetentionIdeal_RefRetentionIdeal_pre_finite_qkv (hRetentionIdeal := hRetentionIdeal) (hRefRetentionIdeal := hRefRetentionIdeal) (hPre_finite_qkv := hPre_finite_qkv)
    ∧ preserves_MlpInner_MlpInnerIdeal
    ∧ algebraic_MlpInnerIdeal_RefMlpInnerIdeal (hMlpInnerIdeal := hMlpInnerIdeal) (hRefMlpInnerIdeal := hRefMlpInnerIdeal)
    ∧ preserves_Ada_AdaIdeal
    ∧ algebraic_AdaIdeal_RefAdaIdeal (hAdaIdeal := hAdaIdeal) (hRefAdaIdeal := hRefAdaIdeal)
-- ==== Pre_finite_qk.lean ====
abbrev S4x4096x11264 : Shape := ⟨3, ![4, 4096, 11264]⟩
abbrev S4x4096x2048 : Shape := ⟨3, ![4, 4096, 2048]⟩
abbrev S_ : Shape := ⟨0, ![]⟩

class Facts : Prop where
  slices_S4x4096x11264_S4x4096x2048_0_0_6144 : S4x4096x11264.Slices ![0, 0, 6144] S4x4096x2048
  bitsLt_bf16_f32 : FTy.bits .bf16 < FTy.bits .f32
  bcast_S_S4x4096x2048 : S_.BroadcastsInDim S4x4096x2048 (![] : Fin 0 → Fin S4x4096x2048.rank)

variable [Facts]

def fn {F : FTy → Type} [FloatOps F] (main_arg0 : FVec F S4x4096x11264 .bf16) : IVec S4x4096x2048 1 :=
  let main_v0 : FVec F S4x4096x2048 .bf16 := (extractStridedSlice S4x4096x2048 ![0, 0, 6144] · slices_S4x4096x11264_S4x4096x2048_0_0_6144) main_arg0
  let main_v1 : FVec F S4x4096x2048 .f32 := (extf .f32 · bitsLt_bf16_f32) main_v0
  let main_v2 : FVec F S4x4096x2048 .f32 := Host.absf main_v1
  let main_cst : FVec F S_ .f32 := constant S_ .f32 0x7F800000#32
  let main_v3 : FVec F S4x4096x2048 .f32 := broadcastInDim S4x4096x2048 ![] bcast_S_S4x4096x2048 main_cst
  let main_v4 : IVec S4x4096x2048 1 := cmpf .olt main_v2 main_v3
  main_v4
-- ==== Pre_finite_qkv.lean ====
abbrev S4x4096x11264 : Shape := ⟨3, ![4, 4096, 11264]⟩
abbrev S4x4096x4096 : Shape := ⟨3, ![4, 4096, 4096]⟩
abbrev S_ : Shape := ⟨0, ![]⟩

class Facts : Prop where
  slices_S4x4096x11264_S4x4096x4096_0_0_0 : S4x4096x11264.Slices ![0, 0, 0] S4x4096x4096
  bitsLt_bf16_f32 : FTy.bits .bf16 < FTy.bits .f32
  bcast_S_S4x4096x4096 : S_.BroadcastsInDim S4x4096x4096 (![] : Fin 0 → Fin S4x4096x4096.rank)

variable [Facts]

def fn {F : FTy → Type} [FloatOps F] (main_arg0 : FVec F S4x4096x11264 .bf16) : IVec S4x4096x4096 1 :=
  let main_v0 : FVec F S4x4096x4096 .bf16 := (extractStridedSlice S4x4096x4096 ![0, 0, 0] · slices_S4x4096x11264_S4x4096x4096_0_0_0) main_arg0
  let main_v1 : FVec F S4x4096x4096 .f32 := (extf .f32 · bitsLt_bf16_f32) main_v0
  let main_v2 : FVec F S4x4096x4096 .f32 := Host.absf main_v1
  let main_cst : FVec F S_ .f32 := constant S_ .f32 0x7F800000#32
  let main_v3 : FVec F S4x4096x4096 .f32 := broadcastInDim S4x4096x4096 ![] bcast_S_S4x4096x4096 main_cst
  let main_v4 : IVec S4x4096x4096 1 := cmpf .olt main_v2 main_v3
  main_v4
-- ==== Kernel.lean ====
abbrev S4x4096x11264 : Shape := ⟨3, ![4, 4096, 11264]⟩
abbrev S256x256 : Shape := ⟨2, ![256, 256]⟩
abbrev S4x4096x1024 : Shape := ⟨3, ![4, 4096, 1024]⟩
abbrev S1x256x128 : Shape := ⟨3, ![1, 256, 128]⟩
abbrev S1x4096x128 : Shape := ⟨3, ![1, 4096, 128]⟩
abbrev S2x256x128 : Shape := ⟨3, ![2, 256, 128]⟩
abbrev S2x256x1 : Shape := ⟨3, ![2, 256, 1]⟩
abbrev S1x128 : Shape := ⟨2, ![1, 128]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x11264, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .bf16⟩
  | .hbm, ⟨5, _⟩ => ⟨S4x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x256, .bf16⟩
  | .local _ .vmem, ⟨7, _⟩ => ⟨S1x256x128, .bf16⟩
  | .local _ .vmem, ⟨8, _⟩ => ⟨S1x256x128, .bf16⟩
  | .local _ .vmem, ⟨9, _⟩ => ⟨S2x256x128, .f32⟩
  | .local _ .vmem, ⟨10, _⟩ => ⟨S2x256x1, .f32⟩
  | _, _ => ⟨S4x4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg2 : BitVec 32 := BitVec.ofNat 32 (i 2).val
  let c256_i32 : BitVec 32 := 256#32
  let v25 : BitVec 32 := Scalar.muli arg2 c256_i32
  v25
def k0_off1 (i : grid0.Coords) : Fin 3 → Nat :=
  let c0_11 : Index := 0#32
  let arg2 : BitVec 32 := BitVec.ofNat 32 (i 2).val
  let c256_i32 : BitVec 32 := 256#32
  let v25 : BitVec 32 := Scalar.muli arg2 c256_i32
  let v26 : BitVec 32 := v25
  let v27 : Index := Scalar.indexCast v26
  let c0_12 : Index := 0#32
  ![0, v27.toNat, 0]
@[reducible] def k0_t1_loop (i : grid0.Coords) : Scf.Loop 32 :=
  let c0_i32 : BitVec 32 := 0#32
  let arg2 : BitVec 32 := BitVec.ofNat 32 (i 2).val
  let v125 : BitVec 32 := Scalar.subi arg2 c0_i32
  let c1_i32 : BitVec 32 := 1#32
  let v127 : BitVec 32 := Scalar.divsi v125 c1_i32
  let v128 : BitVec 32 := Scalar.muli v127 c1_i32
  let v129 : BitVec 32 := Scalar.addi c0_i32 v128
  let c1_i32_63 : BitVec 32 := 1#32
  ⟨c0_i32, v129, c1_i32_63⟩
def k0_mult2 (i : grid0.Coords) (k0_t1 : Fin (k0_t1_loop i).trips) : BitVec 32 :=
  let arg2 : BitVec 32 := BitVec.ofNat 32 (i 2).val
  let c1_i32_74 : BitVec 32 := 1#32
  let v143 : BitVec 32 := Scalar.subi arg2 c1_i32_74
  let c0_i32 : BitVec 32 := 0#32
  let c1_i32_63 : BitVec 32 := 1#32
  let arg10 : BitVec 32 := Scf.iv c0_i32 c1_i32_63 k0_t1
  let v144 : BitVec 32 := Scalar.subi v143 arg10
  let c256_i32_75 : BitVec 32 := 256#32
  let v145 : BitVec 32 := Scalar.muli v144 c256_i32_75
  v145
def k0_off2 (i : grid0.Coords) (k0_t1 : Fin (k0_t1_loop i).trips) : Fin 3 → Nat :=
  let c0_76 : Index := 0#32
  let arg2 : BitVec 32 := BitVec.ofNat 32 (i 2).val
  let c1_i32_74 : BitVec 32 := 1#32
  let v143 : BitVec 32 := Scalar.subi arg2 c1_i32_74
  let c0_i32 : BitVec 32 := 0#32
  let c1_i32_63 : BitVec 32 := 1#32
  let arg10 : BitVec 32 := Scf.iv c0_i32 c1_i32_63 k0_t1
  let v144 : BitVec 32 := Scalar.subi v143 arg10
  let c256_i32_75 : BitVec 32 := 256#32
  let v145 : BitVec 32 := Scalar.muli v144 c256_i32_75
  let v146 : BitVec 32 := v145
  let v147 : Index := Scalar.indexCast v146
  let c0_77 : Index := 0#32
  ![0, v147.toNat, 0]
@[reducible] def k0_t2_loop (i : grid0.Coords) : Scf.Loop 32 :=
  let c0_i32 : BitVec 32 := 0#32
  let arg2 : BitVec 32 := BitVec.ofNat 32 (i 2).val
  let v125 : BitVec 32 := Scalar.subi arg2 c0_i32
  let c1_i32 : BitVec 32 := 1#32
  let v127 : BitVec 32 := Scalar.divsi v125 c1_i32
  let v128 : BitVec 32 := Scalar.muli v127 c1_i32
  let v129 : BitVec 32 := Scalar.addi c0_i32 v128
  let v126 : BitVec 32 := Scalar.addi c0_i32 v125
  let c1_i32_64 : BitVec 32 := 1#32
  ⟨v129, v126, c1_i32_64⟩
def k0_mult3 (i : grid0.Coords) (k0_t2 : Fin (k0_t2_loop i).trips) : BitVec 32 :=
  let arg2 : BitVec 32 := BitVec.ofNat 32 (i 2).val
  let c1_i32_74 : BitVec 32 := 1#32
  let v143 : BitVec 32 := Scalar.subi arg2 c1_i32_74
  let c0_i32 : BitVec 32 := 0#32
  let v125 : BitVec 32 := Scalar.subi arg2 c0_i32
  let c1_i32 : BitVec 32 := 1#32
  let v127 : BitVec 32 := Scalar.divsi v125 c1_i32
  let v128 : BitVec 32 := Scalar.muli v127 c1_i32
  let v129 : BitVec 32 := Scalar.addi c0_i32 v128
  let c1_i32_64 : BitVec 32 := 1#32
  let arg10 : BitVec 32 := Scf.iv v129 c1_i32_64 k0_t2
  let v144 : BitVec 32 := Scalar.subi v143 arg10
  let c256_i32_75 : BitVec 32 := 256#32
  let v145 : BitVec 32 := Scalar.muli v144 c256_i32_75
  v145
def k0_off3 (i : grid0.Coords) (k0_t2 : Fin (k0_t2_loop i).trips) : Fin 3 → Nat :=
  let c0_76 : Index := 0#32
  let arg2 : BitVec 32 := BitVec.ofNat 32 (i 2).val
  let c1_i32_74 : BitVec 32 := 1#32
  let v143 : BitVec 32 := Scalar.subi arg2 c1_i32_74
  let c0_i32 : BitVec 32 := 0#32
  let v125 : BitVec 32 := Scalar.subi arg2 c0_i32
  let c1_i32 : BitVec 32 := 1#32
  let v127 : BitVec 32 := Scalar.divsi v125 c1_i32
  let v128 : BitVec 32 := Scalar.muli v127 c1_i32
  let v129 : BitVec 32 := Scalar.addi c0_i32 v128
  let c1_i32_64 : BitVec 32 := 1#32
  let arg10 : BitVec 32 := Scf.iv v129 c1_i32_64 k0_t2
  let v144 : BitVec 32 := Scalar.subi v143 arg10
  let c256_i32_75 : BitVec 32 := 256#32
  let v145 : BitVec 32 := Scalar.muli v144 c256_i32_75
  let v146 : BitVec 32 := v145
  let v147 : Index := Scalar.indexCast v146
  let c0_77 : Index := 0#32
  ![0, v147.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x4096x11264 : Shape := ⟨3, ![4, 4096, 11264]⟩
abbrev S4x4096x1024 : Shape := ⟨3, ![4, 4096, 1024]⟩
abbrev S4x4096x16x64 : Shape := ⟨4, ![4, 4096, 16, 64]⟩
abbrev S4x16x4096x64 : Shape := ⟨4, ![4, 16, 4096, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096x4096 : Shape := ⟨4, ![4, 16, 4096, 4096]⟩
abbrev S_ : Shape := ⟨0, ![]⟩
abbrev S4x16x4096x4095 : Shape := ⟨4, ![4, 16, 4096, 4095]⟩
abbrev S4x16x4096x1 : Shape := ⟨4, ![4, 16, 4096, 1]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x11264, .bf16⟩
  | .hbm, ⟨1, _⟩ => ⟨S4x4096x11264, .f32⟩
  | .hbm, ⟨2, _⟩ => ⟨S4x4096x1024, .f32⟩
  | .hbm, ⟨3, _⟩ => ⟨S4x4096x16x64, .f32⟩
  | .hbm, ⟨4, _⟩ => ⟨S4x16x4096x64, .f32⟩
  | .hbm, ⟨5, _⟩ => ⟨S4x4096x1024, .f32⟩
  | .hbm, ⟨6, _⟩ => ⟨S4x4096x16x64, .f32⟩
  | .hbm, ⟨7, _⟩ => ⟨S4x16x4096x64, .f32⟩
  | .hbm, ⟨8, _⟩ => ⟨S4x4096x1024, .f32⟩
  | .hbm, ⟨9, _⟩ => ⟨S4x4096x16x64, .f32⟩
  | .hbm, ⟨10, _⟩ => ⟨S4x16x4096x64, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4x16x4096x4096, .f32⟩
  | .hbm, ⟨18, _⟩ => ⟨S_, .f32⟩
  | .hbm, ⟨19, _⟩ => ⟨S4x16x4096x4096, .f32⟩
  | .hbm, ⟨20, _⟩ => ⟨S4x16x4096x4096, .f32⟩
  | .hbm, ⟨21, _⟩ => ⟨S_, .f32⟩
  | .hbm, ⟨22, _⟩ => ⟨S4x16x4096x4096, .f32⟩
  | .hbm, ⟨23, _⟩ => ⟨S4x16x4096x4096, .f32⟩
  | .hbm, ⟨24, _⟩ => ⟨S4x16x4096x4096, .f32⟩
  | .hbm, ⟨25, _⟩ => ⟨S4x16x4096x4096, .f32⟩
  | .hbm, ⟨26, _⟩ => ⟨S4x16x4096x4096, .i1⟩
  | .hbm, ⟨27, _⟩ => ⟨S4x16x4096x4096, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S_, .f32⟩
  | .hbm, ⟨37, _⟩ => ⟨S_, .f32⟩
  | .hbm, ⟨38, _⟩ => ⟨S4x16x4096x4096, .i1⟩
  | .hbm, ⟨39, _⟩ => ⟨S4x16x4096x4096, .f32⟩
  | .hbm, ⟨40, _⟩ => ⟨S4x16x4096x4096, .f32⟩
  | .hbm, ⟨41, _⟩ => ⟨S_, .f32⟩
  | .hbm, ⟨42, _⟩ => ⟨S_, .f32⟩
  | .hbm, ⟨43, _⟩ => ⟨S4x16x4096x4096, .f32⟩
  | .hbm, ⟨44, _⟩ => ⟨S4x16x4096x4095, .f32⟩
  | .hbm, ⟨45, _⟩ => ⟨S4x16x4096x1, .f32⟩
  | .hbm, ⟨46, _⟩ => ⟨S_, .f32⟩
  | .hbm, ⟨47, _⟩ => ⟨S4x16x4096x1, .f32⟩
  | .hbm, ⟨48, _⟩ => ⟨S4x16x4096x4096, .f32⟩
  | .hbm, ⟨49, _⟩ => ⟨S4x16x4096x4096, .f32⟩
  | .hbm, ⟨50, _⟩ => ⟨S_, .f32⟩
  | .hbm, ⟨51, _⟩ => ⟨S4x16x4096x4096, .f32⟩
  | .hbm, ⟨52, _⟩ => ⟨S4x16x4096x4096, .f32⟩
  | .hbm, ⟨53, _⟩ => ⟨S4x16x4096x4096, .f32⟩
  | .hbm, ⟨54, _⟩ => ⟨S4x16x4096x4096, .f32⟩
  | .hbm, ⟨55, _⟩ => ⟨S4x16x4096x4096, .i1⟩
  | .hbm, ⟨56, _⟩ => ⟨S4x16x4096x4096, .f32⟩
  | .hbm, ⟨57, _⟩ => ⟨S4x16x4096x4096, .f32⟩
  | .hbm, ⟨58, _⟩ => ⟨S4x16x4096x4096, .f32⟩
  | .hbm, ⟨59, _⟩ => ⟨S4x16x4096x4096, .f32⟩
  | .hbm, ⟨60, _⟩ => ⟨S4x16x4096x4096, .f32⟩
  | .hbm, ⟨61, _⟩ => ⟨S4x16x4096x4096, .f32⟩
  | .hbm, ⟨62, _⟩ => ⟨S4x16x4096x4096, .f32⟩
  | .hbm, ⟨63, _⟩ => ⟨S4x16x4096x4096, .f32⟩
  | .hbm, ⟨64, _⟩ => ⟨S4x16x4096x4096, .f32⟩
  | .hbm, ⟨65, _⟩ => ⟨S4x16x4096x4096, .f32⟩
  | .hbm, ⟨66, _⟩ => ⟨S4x16x4096x4096, .f32⟩
  | .hbm, ⟨67, _⟩ => ⟨S_, .f32⟩
  | .hbm, ⟨68, _⟩ => ⟨S_, .f32⟩
  | .hbm, ⟨69, _⟩ => ⟨S4x16x4096x4096, .i1⟩
  | .hbm, ⟨70, _⟩ => ⟨S4x16x4096x4096, .f32⟩
  | .hbm, ⟨71, _⟩ => ⟨S4x16x4096x4096, .f32⟩
  | .hbm, ⟨72, _⟩ => ⟨S4x16x4096x64, .f32⟩
  | .hbm, ⟨73, _⟩ => ⟨S4x4096x16x64, .f32⟩
  | .hbm, ⟨74, _⟩ => ⟨S4x4096x1024, .f32⟩
  | .hbm, ⟨75, _⟩ => ⟨S4x4096x1024, .bf16⟩
  | _, _ => ⟨S4x4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_call2_cst : Ref sig .tc := ⟨.hbm, 41, rfl⟩
abbrev main_call2_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_2 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩

abbrev nD : Nat := 1
abbrev τ : Topo := Topo.v7x

variable {F : FTy → Type} [FloatOps F]
-- ==== Mlp.lean ====
abbrev S4x4096x1024 : Shape := ⟨3, ![4, 4096, 1024]⟩
abbrev S1024 : Shape := ⟨1, ![1024]⟩
abbrev S4x6x1024 : Shape := ⟨3, ![4, 6, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x6x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== RefMlpIdeal.lean ====
abbrev S4x4096x1024 : Shape := ⟨3, ![4, 4096, 1024]⟩
abbrev S1024 : Shape := ⟨1, ![1024]⟩
abbrev S4x6x1024 : Shape := ⟨3, ![4, 6, 1024]⟩
abbrev S1024x4096 : Shape := ⟨2, ![1024, 4096]⟩
abbrev S4096x1024 : Shape := ⟨2, ![4096, 1024]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x6x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S4x1x1024, .f32⟩
  | .hbm, ⟨7, _⟩ => ⟨S4x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4x1x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x1, .f32⟩
  | .hbm, ⟨58, _⟩ => ⟨S4x4096x1024, .f32⟩
  | .hbm, ⟨59, _⟩ => ⟨S4x4096x1024, .f32⟩
  | .hbm, ⟨60, _⟩ => ⟨S1x1x1024, .f32⟩
  | .hbm, ⟨61, _⟩ => ⟨S4x4096x1024, .f32⟩
  | .hbm, ⟨62, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== InProj.lean ====
abbrev S4x4096x1024 : Shape := ⟨3, ![4, 4096, 1024]⟩
abbrev S1024 : Shape := ⟨1, ![1024]⟩
abbrev S4x6x1024 : Shape := ⟨3, ![4, 6, 1024]⟩
abbrev S1024x11264 : Shape := ⟨2, ![1024, 11264]⟩
abbrev S1x1024 : Shape := ⟨2, ![1, 1024]⟩
abbrev S4x4096x11264 : Shape := ⟨3, ![4, 4096, 11264]⟩
abbrev S1x512x1024 : Shape := ⟨3, ![1, 512, 1024]⟩
abbrev S1x6x1024 : Shape := ⟨3, ![1, 6, 1024]⟩
abbrev S1024x2816 : Shape := ⟨2, ![1024, 2816]⟩
abbrev S1x512x2816 : Shape := ⟨3, ![1, 512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x6x1024, .f32⟩
  | .hbm, ⟨3, _⟩ => ⟨S1024x11264, .f32⟩
  | .hbm, ⟨4, _⟩ => ⟨S1024x11264, .bf16⟩
  | .hbm, ⟨5, _⟩ => ⟨S1x1024, .f32⟩
  | .hbm, ⟨6, _⟩ => ⟨S4x4096x11264, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x2816, .bf16⟩
  | .local _ .vmem, ⟨6, _⟩ => ⟨S1024x2816, .bf16⟩
  | .local _ .vmem, ⟨7, _⟩ => ⟨S1x512x2816, .bf16⟩
  | .local _ .vmem, ⟨8, _⟩ => ⟨S1x512x2816, .bf16⟩
  | .local _ .vmem, ⟨9, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== RefInProjIdeal.lean ====
abbrev S4x4096x1024 : Shape := ⟨3, ![4, 4096, 1024]⟩
abbrev S1024 : Shape := ⟨1, ![1024]⟩
abbrev S4x6x1024 : Shape := ⟨3, ![4, 6, 1024]⟩
abbrev S1024x11264 : Shape := ⟨2, ![1024, 11264]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x11264 : Shape := ⟨3, ![4, 4096, 11264]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x6x1024, .f32⟩
  | .hbm, ⟨3, _⟩ => ⟨S1024x11264, .f32⟩
  | .hbm, ⟨4, _⟩ => ⟨S4x1x1024, .f32⟩
  | .hbm, ⟨5, _⟩ => ⟨S4x1024, .f32⟩
  | .hbm, ⟨6, _⟩ => ⟨S4x1x1024, .f32⟩
  | .hbm, ⟨7, _⟩ => ⟨S4x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x11264, .f32⟩
  | .hbm, ⟨34, _⟩ => ⟨S4x4096x11264, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== MixOut.lean ====
abbrev S4x4096x2048 : Shape := ⟨3, ![4, 4096, 2048]⟩
abbrev S4x4096x1024 : Shape := ⟨3, ![4, 4096, 1024]⟩
abbrev S4x4096x11264 : Shape := ⟨3, ![4, 4096, 11264]⟩
abbrev S4x6x1024 : Shape := ⟨3, ![4, 6, 1024]⟩
abbrev S2048x1024 : Shape := ⟨2, ![2048, 1024]⟩
abbrev S1024x1024 : Shape := ⟨2, ![1024, 1024]⟩
abbrev S1x512x2048 : Shape := ⟨3, ![1, 512, 2048]⟩
abbrev S1x512x1024 : Shape := ⟨3, ![1, 512, 1024]⟩
abbrev S1x6x1024 : Shape := ⟨3, ![1, 6, 1024]⟩
abbrev S512x2048 : Shape := ⟨2, ![512, 2048]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .bf16⟩
  | .hbm, ⟨2, _⟩ => ⟨S4x4096x11264, .bf16⟩
  | .hbm, ⟨3, _⟩ => ⟨S4x4096x1024, .f32⟩
  | .hbm, ⟨4, _⟩ => ⟨S4x6x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S2048x1024, .bf16⟩
  | .hbm, ⟨9, _⟩ => ⟨S1024x1024, .bf16⟩
  | .hbm, ⟨10, _⟩ => ⟨S1024x1024, .bf16⟩
  | .hbm, ⟨11, _⟩ => ⟨S4x4096x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x512x1024, .f32⟩
  | .local _ .vmem, ⟨16, _⟩ => ⟨S1x512x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefMixOutIdeal.lean ====
abbrev S4x4096x2048 : Shape := ⟨3, ![4, 4096, 2048]⟩
abbrev S4x4096x1024 : Shape := ⟨3, ![4, 4096, 1024]⟩
abbrev S4x4096x11264 : Shape := ⟨3, ![4, 4096, 11264]⟩
abbrev S4x6x1024 : Shape := ⟨3, ![4, 6, 1024]⟩
abbrev S2048x1024 : Shape := ⟨2, ![2048, 1024]⟩
abbrev S1024x1024 : Shape := ⟨2, ![1024, 1024]⟩
abbrev S_ : Shape := ⟨0, ![]⟩
abbrev S4x1x1024 : Shape := ⟨3, ![4, 1, 1024]⟩
abbrev S4x1024 : Shape := ⟨2, ![4, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .bf16⟩
  | .hbm, ⟨2, _⟩ => ⟨S4x4096x11264, .bf16⟩
  | .hbm, ⟨3, _⟩ => ⟨S4x4096x1024, .f32⟩
  | .hbm, ⟨4, _⟩ => ⟨S4x6x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S4x4096x1024, .bf16⟩
  | .hbm, ⟨9, _⟩ => ⟨S4x4096x1024, .f32⟩
  | .hbm, ⟨10, _⟩ => ⟨S4x4096x1024, .bf16⟩
  | .hbm, ⟨11, _⟩ => ⟨S4x4096x1024, .f32⟩
  | .hbm, ⟨12, _⟩ => ⟨S4x4096x2048, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S_, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x1x1024, .f32⟩
  | .hbm, ⟨36, _⟩ => ⟨S4x1024, .f32⟩
  | .hbm, ⟨37, _⟩ => ⟨S4x1x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Retention.lean ====
abbrev S4x4096x11264 : Shape := ⟨3, ![4, 4096, 11264]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S1x4 : Shape := ⟨2, ![1, 4]⟩
abbrev S2x4 : Shape := ⟨2, ![2, 4]⟩
abbrev S4x4096x2048 : Shape := ⟨3, ![4, 4096, 2048]⟩
abbrev S1x256x256 : Shape := ⟨3, ![1, 256, 256]⟩
abbrev S1x256x512 : Shape := ⟨3, ![1, 256, 512]⟩
abbrev S256x128 : Shape := ⟨2, ![256, 128]⟩
abbrev S256x512 : Shape := ⟨2, ![256, 512]⟩
abbrev S256x256 : Shape := ⟨2, ![256, 256]⟩
abbrev S256x1 : Shape := ⟨2, ![256, 1]⟩
abbrev S1x1 : Shape := ⟨2, ![1, 1]⟩
abbrev S256 : Shape := ⟨1, ![256]⟩

abbrev nBuf : Space → Nat
  | .hbm => 34
  | .vmem => 18
  | .smem => 1
  | _ => 0

abbrev bufTy : (tb : Table) → Fin (tcTables nBuf tb) → BufTy
  | .hbm, ⟨0, _⟩ => ⟨S4x4096x11264, .bf16⟩
  | .hbm, ⟨1, _⟩ => ⟨S128, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S4096, .f32⟩
  | .hbm, ⟨10, _⟩ => ⟨S4096x1, .f32⟩
  | .hbm, ⟨11, _⟩ => ⟨S1x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S1x4, .f32⟩
  | .hbm, ⟨31, _⟩ => ⟨S1x4, .f32⟩
  | .hbm, ⟨32, _⟩ => ⟨S2x4, .f32⟩
  | .hbm, ⟨33, _⟩ => ⟨S4x4096x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x512, .bf16⟩
  | .local _ .vmem, ⟨13, _⟩ => ⟨S1x256x512, .bf16⟩
  | .local _ .vmem, ⟨14, _⟩ => ⟨S256x512, .f32⟩
  | .local _ .vmem, ⟨15, _⟩ => ⟨S256x256, .f32⟩
  | .local _ .vmem, ⟨16, _⟩ => ⟨S256x1, .f32⟩
  | .local _ .vmem, ⟨17, _⟩ => ⟨S256x1, .f32⟩
  | .local _ .smem, ⟨0, _⟩ => ⟨S2x4, .f32⟩
  | _, _ => ⟨S4x4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== RefRetentionIdeal.lean ====
abbrev S4x4096x11264 : Shape := ⟨3, ![4, 4096, 11264]⟩
abbrev S4x4096x1024 : Shape := ⟨3, ![4, 4096, 1024]⟩
abbrev S4x4096x4x256 : Shape := ⟨4, ![4, 4096, 4, 256]⟩
abbrev S4x4x4096x256 : Shape := ⟨4, ![4, 4, 4096, 256]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4x4x4096x128 : Shape := ⟨4, ![4, 4, 4096, 128]⟩
abbrev S1x1x4096x128 : Shape := ⟨4, ![1, 1, 4096, 128]⟩
abbrev S4x4096x2048 : Shape := ⟨3, ![4, 4096, 2048]⟩
abbrev S4x4096x4x512 : Shape := ⟨4, ![4, 4096, 4, 512]⟩
abbrev S4x4x4096x512 : Shape := ⟨4, ![4, 4, 4096, 512]⟩
abbrev S4 : Shape := ⟨1, ![4]⟩
abbrev S1x4096 : Shape := ⟨2, ![1, 4096]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4x4x4096x4096 : Shape := ⟨4, ![4, 4, 4096, 4096]⟩
abbrev S1x4x4096x4096 : Shape := ⟨4, ![1, 4, 4096, 4096]⟩
abbrev S4x4x4096 : Shape := ⟨3, ![4, 4, 4096]⟩
abbrev S4x4x4096x1 : Shape := ⟨4, ![4, 4, 4096, 1]⟩

abbrev nBuf : Space → Nat
  | .hbm => 154
  | .vmem => 0
  | .smem => 0
  | _ => 0

abbrev hbmTy0_0 (i : Nat) : BufTy := match i % 128 with
  | 0 => ⟨S4x4096x11264, .bf16⟩
  | 1 => ⟨S4x4096x11264, .f32⟩
  | 2 => ⟨S4x4096x1024, .f32⟩
  | 3 => ⟨S4x4096x4x256, .f32⟩
  | 4 => ⟨S4x4x4096x256, .f32⟩
  | 5 => ⟨S128, .f32⟩
  | 6 => ⟨S128, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S4096, .f32⟩
  | 14 => ⟨S4096x1, .f32⟩
  | 15 => ⟨S1x128, .f32⟩
  | 16 => ⟨S4096x128, .f32⟩
  | 17 => ⟨S4096x128, .f32⟩
  | 18 => ⟨S4096x128, .f32⟩
  | 19 => ⟨S4096x128, .f32⟩
  | 20 => ⟨S4096x128, .f32⟩
  | 21 => ⟨S4x4x4096x128, .f32⟩
  | 22 => ⟨S4x4x4096x128, .f32⟩
  | 23 => ⟨S1x1x4096x128, .f32⟩
  | 24 => ⟨S4x4x4096x128, .f32⟩
  | 25 => ⟨S4x4x4096x128, .f32⟩
  | 26 => ⟨S1x1x4096x128, .f32⟩
  | 27 => ⟨S4x4x4096x128, .f32⟩
  | 28 => ⟨S4x4x4096x128, .f32⟩
  | 29 => ⟨S4x4x4096x128, .f32⟩
  | 30 => ⟨S1x1x4096x128, .f32⟩
  | 31 => ⟨S4x4x4096x128, .f32⟩
  | 32 => ⟨S4x4x4096x128, .f32⟩
  | 33 => ⟨S1x1x4096x128, .f32⟩
  | 34 => ⟨S4x4x4096x128, .f32⟩
  | 35 => ⟨S4x4x4096x128, .f32⟩
  | 36 => ⟨S4x4x4096x128, .f32⟩
  | 37 => ⟨S4x4x4096x256, .f32⟩
  | 38 => ⟨S4x4096x1024, .f32⟩
  | 39 => ⟨S4x4096x4x256, .f32⟩
  | 40 => ⟨S4x4x4096x256, .f32⟩
  | 41 => ⟨S128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S4096, .f32⟩
  | 50 => ⟨S4096x1, .f32⟩
  | 51 => ⟨S1x128, .f32⟩
  | 52 => ⟨S4096x128, .f32⟩
  | 53 => ⟨S4096x128, .f32⟩
  | 54 => ⟨S4096x128, .f32⟩
  | 55 => ⟨S4096x128, .f32⟩
  | 56 => ⟨S4096x128, .f32⟩
  | 57 => ⟨S4x4x4096x128, .f32⟩
  | 58 => ⟨S4x4x4096x128, .f32⟩
  | 59 => ⟨S1x1x4096x128, .f32⟩
  | 60 => ⟨S4x4x4096x128, .f32⟩
  | 61 => ⟨S4x4x4096x128, .f32⟩
  | 62 => ⟨S1x1x4096x128, .f32⟩
  | 63 => ⟨S4x4x4096x128, .f32⟩
  | 64 => ⟨S4x4x4096x128, .f32⟩
  | 65 => ⟨S4x4x4096x128, .f32⟩
  | 66 => ⟨S1x1x4096x128, .f32⟩
  | 67 => ⟨S4x4x4096x128, .f32⟩
  | 68 => ⟨S4x4x4096x128, .f32⟩
  | 69 => ⟨S1x1x4096x128, .f32⟩
  | 70 => ⟨S4x4x4096x128, .f32⟩
  | 71 => ⟨S4x4x4096x128, .f32⟩
  | 72 => ⟨S4x4x4096x128, .f32⟩
  | 73 => ⟨S4x4x4096x256, .f32⟩
  | 74 => ⟨S_, .f32⟩
  | 75 => ⟨S4x4x4096x256, .f32⟩
  | 76 => ⟨S4x4x4096x256, .f32⟩
  | 77 => ⟨S4x4096x2048, .f32⟩
  | 78 => ⟨S4x4096x4x512, .f32⟩
  | 79 => ⟨S4x4x4096x512, .f32⟩
  | 80 => ⟨S4x4096x2048, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S4, .f32⟩
  | 90 => ⟨S4096, .f32⟩
  | 91 => ⟨S4096x1, .f32⟩
  | 92 => ⟨S1x4096, .f32⟩
  | 93 => ⟨S4096x4096, .f32⟩
  | 94 => ⟨S4096x4096, .f32⟩
  | 95 => ⟨S4096x4096, .f32⟩
  | 96 => ⟨S_, .f32⟩
  | 97 => ⟨S4096x4096, .f32⟩
  | 98 => ⟨S4096x4096, .i1⟩
  | 99 => ⟨S_, .f32⟩
  | 100 => ⟨S4096x4096, .f32⟩
  | 101 => ⟨S4096x4096, .f32⟩
  | 102 => ⟨S4x1x1, .f32⟩
  | 103 => ⟨S1x4096x4096, .f32⟩
  | 104 => ⟨S4x4096x4096, .f32⟩
  | 105 => ⟨S4x4096x4096, .f32⟩
  | 106 => ⟨S4x4096x4096, .f32⟩
  | 107 => ⟨S4x4096x4096, .f32⟩
  | 108 => ⟨S_, .f32⟩
  | 109 => ⟨S_, .f32⟩
  | 110 => ⟨S4x4096x4096, .i1⟩
  | 111 => ⟨S4x4096x4096, .f32⟩
  | 112 => ⟨S4x4096x4096, .f32⟩
  | 113 => ⟨S4x4x4096x4096, .f32⟩
  | 114 => ⟨S1x4x4096x4096, .f32⟩
  | 115 => ⟨S4x4x4096x4096, .f32⟩
  | 116 => ⟨S4x4x4096x4096, .f32⟩
  | 117 => ⟨S4x4x4096x512, .f32⟩
  | 118 => ⟨S_, .f32⟩
  | 119 => ⟨S4x4x4096, .f32⟩
  | 120 => ⟨S4x4x4096x1, .f32⟩
  | 121 => ⟨S_, .f32⟩
  | 122 => ⟨S4x4x4096x1, .f32⟩
  | 123 => ⟨S4x4x4096x1, .f32⟩
  | 124 => ⟨S4x4x4096x512, .f32⟩
  | 125 => ⟨S4x4x4096x512, .f32⟩
  | 126 => ⟨S4x4x4096x512, .f32⟩
  | 127 => ⟨S_, .f32⟩
  | _ => ⟨S4x4096x11264, .bf16⟩

abbrev hbmTy0_1 (i : Nat) : BufTy := match i % 128 with
  | 0 => ⟨S4x4x4096, .f32⟩
  | 1 => ⟨S4x4x4096x1, .f32⟩
  | 2 => ⟨S_, .f32⟩
  | 3 => ⟨S4x4x4096x1, .f32⟩
  | 4 => ⟨S4x4x4096x1, .f32⟩
  | 5 => ⟨S4x4x4096x512, .f32⟩
  | 6 => ⟨S4x4x4096x512, .f32⟩
  | 7 => ⟨S_, .f32⟩
  | 8 => ⟨S4x4x4096x1, .f32⟩
  | 9 => ⟨S4x4x4096x1, .f32⟩
  | 10 => ⟨S4x4x4096x1, .f32⟩
  | 11 => ⟨S4x4x4096x512, .f32⟩
  | 12 => ⟨S4x4x4096x512, .f32⟩
  | 13 => ⟨S4x4096x2048, .f32⟩
  | 14 => ⟨S4x4096x2048, .f32⟩
  | 15 => ⟨S_, .f32⟩
  | 16 => ⟨S4x4096x2048, .f32⟩
  | 17 => ⟨S4x4096x2048, .f32⟩
  | 18 => ⟨S_, .f32⟩
  | 19 => ⟨S4x4096x2048, .f32⟩
  | 20 => ⟨S4x4096x2048, .f32⟩
  | 21 => ⟨S4x4096x2048, .f32⟩
  | 22 => ⟨S4x4096x4x512, .f32⟩
  | 23 => ⟨S4x4096x2048, .f32⟩
  | 24 => ⟨S4x4096x2048, .f32⟩
  | 25 => ⟨S4x4096x2048, .bf16⟩
  | _ => ⟨S4x4096x11264, .bf16⟩

abbrev hbmTy (i : Nat) : BufTy := match i / 128 with
  | 0 => hbmTy0_0 i
  | 1 => hbmTy0_1 i
  | _ => ⟨S4x4096x11264, .bf16⟩

abbrev bufTy : (tb : Table) → Fin (tcTables nBuf tb) → BufTy
  | .hbm, ⟨i, _⟩ => hbmTy i
  | _, _ => ⟨S4x4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_cst_1 : Ref sig .tc := ⟨.hbm, 43, rfl⟩
abbrev main_v40 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_cst_3 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_cst_4 : Ref sig .tc := ⟨.hbm, 82, rfl⟩
abbrev main_v76 : Ref sig .tc := ⟨.hbm, 83, rfl⟩
abbrev main_v77 : Ref sig .tc := ⟨.hbm, 84, rfl⟩
abbrev main_cst_5 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_cst_6 : Ref sig .tc := ⟨.hbm, 96, rfl⟩
abbrev main_v88 : Ref sig .tc := ⟨.hbm, 97, rfl⟩
abbrev main_v89 : Ref sig .tc := ⟨.hbm, 98, rfl⟩
abbrev main_cst_7 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_cst_8 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_9 : Ref sig .tc := ⟨.hbm, 118, rfl⟩
abbrev main_v104 : Ref sig .tc := ⟨.hbm, 119, rfl⟩
abbrev main_v105 : Ref sig .tc := ⟨.hbm, 120, rfl⟩
abbrev main_cst_10 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_cst_11 : Ref sig .tc := ⟨.hbm, 127, rfl⟩
abbrev main_v111 : Ref sig .tc := ⟨.hbm, 128, rfl⟩
abbrev main_v112 : Ref sig .tc := ⟨.hbm, 129, rfl⟩
abbrev main_cst_12 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_13 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_call1_v0 : Ref sig .tc := ⟨.hbm, 141, rfl⟩
abbrev main_call1_v1 : Ref sig .tc := ⟨.hbm, 142, rfl⟩
abbrev main_call1_cst : Ref sig .tc := ⟨.hbm, 143, rfl⟩
abbrev main_call1_v2 : Ref sig .tc := ⟨.hbm, 144, rfl⟩
abbrev main_call1_v3 : Ref sig .tc := ⟨.hbm, 145, rfl⟩
abbrev main_call1_cst_0 : Ref sig .tc := ⟨.hbm, 146, rfl⟩
abbrev main_call1_v4 : Ref sig .tc := ⟨.hbm, 147, rfl⟩
abbrev main_call1_v5 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩

abbrev nD : Nat := 1
abbrev τ : Topo := Topo.v7x

variable {F : FTy → Type} [FloatOps F]
-- ==== MlpInner.lean ====
abbrev S4x4096x1024 : Shape := ⟨3, ![4, 4096, 1024]⟩
abbrev S1024 : Shape := ⟨1, ![1024]⟩
abbrev S4x6x1024 : Shape := ⟨3, ![4, 6, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x6x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== RefMlpInnerIdeal.lean ====
abbrev S4x4096x1024 : Shape := ⟨3, ![4, 4096, 1024]⟩
abbrev S1024 : Shape := ⟨1, ![1024]⟩
abbrev S4x6x1024 : Shape := ⟨3, ![4, 6, 1024]⟩
abbrev S1024x4096 : Shape := ⟨2, ![1024, 4096]⟩
abbrev S4096x1024 : Shape := ⟨2, ![4096, 1024]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x6x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S4x1x1024, .f32⟩
  | .hbm, ⟨7, _⟩ => ⟨S4x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4x1x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Ada.lean ====
abbrev S4x1024 : Shape := ⟨2, ![4, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x4x6144 : Shape := ⟨3, ![2, 4, 6144]⟩
abbrev S1x1024x1536 : Shape := ⟨3, ![1, 1024, 1536]⟩
abbrev S1x1x1536 : Shape := ⟨3, ![1, 1, 1536]⟩
abbrev S1x4x1536 : Shape := ⟨3, ![1, 4, 1536]⟩
abbrev S1024x1536 : Shape := ⟨2, ![1024, 1536]⟩
abbrev S4x1536 : Shape := ⟨2, ![4, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x4x6144, .f32⟩
  | .local _ .vmem, ⟨0, _⟩ => ⟨S4x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x4x1536, .f32⟩
  | .local _ .vmem, ⟨6, _⟩ => ⟨S1x4x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefAdaIdeal.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S2x6144x4 : Shape := ⟨3, ![2, 6144, 4]⟩
abbrev S2x4x6144 : Shape := ⟨3, ![2, 4, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S2x6144x4, .f32⟩
  | .hbm, ⟨13, _⟩ => ⟨S2x4x6144, .f32⟩
  | .hbm, ⟨14, _⟩ => ⟨S2x1x6144, .f32⟩
  | .hbm, ⟨15, _⟩ => ⟨S2x4x6144, .f32⟩
  | .hbm, ⟨16, _⟩ => ⟨S2x4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.MlpInnerVal.lean ====
module

public import proofs.«01_k».proof.Proof.Gen.MlpInnerIdeal.Value
public import proofs.«01_k».proof.Proof.Gen.RefMlpInnerIdeal.Run
public import proofs.«01_k».proof.Proof.Gen.RefMlpInnerIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.MlpInnerIdeal.Proj

open Cert.MlpInnerIdeal Cert.MlpInnerIdeal.Gen Idealize.ShloMosaic Idealize.ShloMosaic.TcCoe Idealize.SL.Sem
open Idealize.ShloMosaic.Pipeline (Dat)

variable (m : (ℓ : Loc nD τ sig) → Buf (Elt Ideal) ℓ)

/-- The normalised and modulated rows, as the reference has them, over the kernel's arguments. -/
abbrev H (c : Dev nD) : FVec Ideal S4x4096x1024 .f32 :=
  Cert.RefMlpInnerIdeal.Read.val_main_v26 (F := Ideal)
    (m ((c : Thread nD τ).loc main_arg0)) (m ((c : Thread nD τ).loc main_arg1))
    (m ((c : Thread nD τ).loc main_arg2))

/-- The squared rectified hidden layer of the reference over the kernel's arguments. -/
abbrev U (c : Dev nD) : FVec Ideal Cert.RefMlpInnerIdeal.S4x4096x4096 .f32 :=
  Cert.RefMlpInnerIdeal.Read.val_main_v29 (F := Ideal)
    (m ((c : Thread nD τ).loc main_arg0)) (m ((c : Thread nD τ).loc main_arg1))
    (m ((c : Thread nD τ).loc main_arg2)) (m ((c : Thread nD τ).loc main_arg3))

/-- The down projection of the reference over the kernel's arguments. -/
abbrev Down (c : Dev nD) : FVec Ideal S4x4096x1024 .f32 :=
  Cert.RefMlpInnerIdeal.Read.val_main_v31 (F := Ideal)
    (m ((c : Thread nD τ).loc main_arg0)) (m ((c : Thread nD τ).loc main_arg1))
    (m ((c : Thread nD τ).loc main_arg2)) (m ((c : Thread nD τ).loc main_arg3))
    (m ((c : Thread nD τ).loc main_arg4))

/-- The reference's array over the kernel's arguments. -/
abbrev G (c : Dev nD) : FVec Ideal S4x4096x1024 .f32 :=
  Cert.RefMlpInnerIdeal.Read.val_main_v34 (F := Ideal)
    (m ((c : Thread nD τ).loc main_arg0)) (m ((c : Thread nD τ).loc main_arg1))
    (m ((c : Thread nD τ).loc main_arg2)) (m ((c : Thread nD τ).loc main_arg3))
    (m ((c : Thread nD τ).loc main_arg4))

/-- Every window's block index at every point of the grid. -/
theorem idx : ∀ t : Fin cfg0.N,
    win0_0.index t = ![t.val / 16, t.val / 4 % 4, 0] ∧ win0_1.index t = ![0, 0]
      ∧ win0_2.index t = ![t.val / 16, 0, 0] ∧ win0_3.index t = ![0, t.val % 4]
      ∧ win0_4.index t = ![t.val % 4, 0] ∧ win0_5.index t = ![0, 0]
      ∧ win0_6.index t = ![t.val / 16, t.val / 4 % 4, 0] ∧ t.val / 16 < 4 ∧ t.val / 4 % 4 < 4 :=
  (by decide +kernel : ∀ t : Fin grid0.N, _)

/-- The batch a point works on. -/
abbrev bt (t : Fin cfg0.N) : Fin 4 := ⟨t.val / 16, (idx t).2.2.2.2.2.2.2.1⟩

/-- The row of the array a row of the point's block sits at. -/
abbrev rw_ (t : Fin cfg0.N) (r : Fin 1024) : Fin 4096 :=
  ⟨t.val / 4 % 4 * 1024 + r.val, by
    have h := (idx t).2.2.2.2.2.2.2.2; have hi := r.isLt; omega⟩

/-- The hidden lane a lane of the point's block sits at. -/
abbrev ff (t : Fin cfg0.N) (l : Fin 1024) : Fin 4096 :=
  ⟨t.val % 4 * 1024 + l.val, by have hi := l.isLt; have h := Nat.mod_lt t.val (show 0 < 4 by decide); omega⟩

/-- What the first scratch holds after a point: the point's rows of `H`. -/
def rows (c : Dev nD) (t : Fin cfg0.N) (i : S1024x1024.Idx) : EReal :=
  H m c (ix3 (bt t) (rw_ t (i 0)) (i 1))

/-- A point's part of the down projection. -/
def part (c : Dev nD) (t : Fin cfg0.N) (i : S1024x1024.Idx) : EReal :=
  ∑ l : Fin 1024, U m c (ix3 (bt t) (rw_ t (i 0)) (ff t l))
    * (show FVec Ideal S4096x1024 .f32 from m ((c : Thread nD τ).loc main_arg4)) (ix2 (ff t l) (i 1))

set_option maxHeartbeats 1600000 in
/-- At the first point of a run the body stores those rows. -/
theorem rows_first (c : Dev nD) (t : Fin cfg0.N) (h : t.val % 4 = 0) (i : S1024x1024.Idx) :
    (outsAt0 m c t.val t.isLt).2.1 i = rows m c t i := by
  rw [outsAt0_A m c t h (by omega)]; frame_out
  unfold rows
  pointwise [k0_pay1, H, Cert.RefMlpInnerIdeal.Read.val_main_v0, Cert.RefMlpInnerIdeal.Read.val_main_v1, Cert.RefMlpInnerIdeal.Read.val_main_v2,
    Cert.RefMlpInnerIdeal.Read.val_main_v3, Cert.RefMlpInnerIdeal.Read.val_main_v4, Cert.RefMlpInnerIdeal.Read.val_main_v5,
    Cert.RefMlpInnerIdeal.Read.val_main_v6, Cert.RefMlpInnerIdeal.Read.val_main_cst, Cert.RefMlpInnerIdeal.Read.val_main_v7,
    Cert.RefMlpInnerIdeal.Read.val_main_v8, Cert.RefMlpInnerIdeal.Read.val_main_cst_0, Cert.RefMlpInnerIdeal.Read.val_main_v9,
    Cert.RefMlpInnerIdeal.Read.val_main_v10, Cert.RefMlpInnerIdeal.Read.val_main_cst_1, Cert.RefMlpInnerIdeal.Read.val_main_v11,
    Cert.RefMlpInnerIdeal.Read.val_main_v12, Cert.RefMlpInnerIdeal.Read.val_main_v13, Cert.RefMlpInnerIdeal.Read.val_main_v14,
    Cert.RefMlpInnerIdeal.Read.val_main_v15, Cert.RefMlpInnerIdeal.Read.val_main_v16, Cert.RefMlpInnerIdeal.Read.val_main_v17,
    Cert.RefMlpInnerIdeal.Read.val_main_v18, Cert.RefMlpInnerIdeal.Read.val_main_v19, Cert.RefMlpInnerIdeal.Read.val_main_cst_2,
    Cert.RefMlpInnerIdeal.Read.val_main_v20, Cert.RefMlpInnerIdeal.Read.val_main_v21, Cert.RefMlpInnerIdeal.Read.val_main_v22,
    Cert.RefMlpInnerIdeal.Read.val_main_v23, Cert.RefMlpInnerIdeal.Read.val_main_v24, Cert.RefMlpInnerIdeal.Read.val_main_v25,
    Cert.RefMlpInnerIdeal.Read.val_main_v26]
  blk_point [iblk, V, idx t]

/-- At the other points of the run the first scratch is as the point before left it. -/
theorem rows_keep (c : Dev nD) (t : Fin cfg0.N) (h : ¬t.val % 4 = 0) :
    (outsAt0 m c t.val t.isLt).2.1
      = (outsAt0 m c (t.val - 1) (Nat.lt_of_le_of_lt (Nat.sub_le _ _) t.isLt)).2.1 := by
  by_cases h3 : t.val % 4 = 3
  · rw [outsAt0_C m c t h h3]; rfl
  · rw [outsAt0_B m c t h h3]; rfl

/-- At every point the first scratch holds the point's rows of `H`. -/
theorem rows_all (c : Dev nD) (t : Fin cfg0.N) : (outsAt0 m c t.val t.isLt).2.1 = rows m c t := by
  funext i
  rw [Pipeline.eq_of_write_hold_apply (fun n h => (outsAt0 m c n h).2.1) 4 (rows m c) (rows_first m c)
    (fun t h i => congrFun (rows_keep m c t h) i) t i]
  unfold rows
  refine congrArg _ ((ix3_inj ..).2 ⟨Fin.ext ?_, Fin.ext ?_, rfl⟩)
  · show 4 * (t.val / 4) / 16 = t.val / 16
    omega
  · show 4 * (t.val / 4) / 4 % 4 * 1024 + _ = t.val / 4 % 4 * 1024 + _
    omega

set_option maxHeartbeats 1600000 in
/-- The accumulating payload adds the point's part. -/
theorem pay3_eq (c : Dev nD) (t : Fin cfg0.N) (acc : Vec Ideal S1024x1024 .f32) (i : S1024x1024.Idx) :
    k0_pay3 (F := Ideal) (rows m c t) (iblk m c 3 t) acc (iblk m c 4 t) i = acc i + part m c t i := by
  unfold part
  pointwise [k0_pay3, U, Cert.RefMlpInnerIdeal.Read.val_main_v27, Cert.RefMlpInnerIdeal.Read.val_main_call0_cst, Cert.RefMlpInnerIdeal.Read.val_main_call0_v0,
    Cert.RefMlpInnerIdeal.Read.val_main_v28, Cert.RefMlpInnerIdeal.Read.val_main_v29, rows]
  blk_point [iblk, V, idx t]

/-- The accumulator after the first point of a run. -/
theorem acc_first (c : Dev nD) (t : Fin cfg0.N) (h : t.val % 4 = 0) (i : S1024x1024.Idx) :
    (outsAt0 m c t.val t.isLt).2.2 i = 0 + part m c t i := by
  have e : (outsAt0 m c t.val t.isLt).2.2
      = k0_pay3 (F := Ideal) (outsAt0 m c t.val t.isLt).2.1 (iblk m c 3 t) (k0_pay2 (F := Ideal)) (iblk m c 4 t) := by
    rw [outsAt0_A m c t h (by omega)]; frame_out
  rw [e, rows_all, pay3_eq]
  pointwise [k0_pay2]

/-- The accumulator after another point of a run. -/
theorem acc_next (c : Dev nD) (t : Fin cfg0.N) (h : ¬t.val % 4 = 0) (i : S1024x1024.Idx) :
    (outsAt0 m c t.val t.isLt).2.2 i
      = (outsAt0 m c (t.val - 1) (Nat.lt_of_le_of_lt (Nat.sub_le _ _) t.isLt)).2.2 i + part m c t i := by
  have e : (outsAt0 m c t.val t.isLt).2.2
      = k0_pay3 (F := Ideal) (outsAt0 m c t.val t.isLt).2.1 (iblk m c 3 t)
          (outsAt0 m c (t.val - 1) (Nat.lt_of_le_of_lt (Nat.sub_le _ _) t.isLt)).2.2 (iblk m c 4 t) := by
    rw [rows_keep m c t h]
    by_cases h3 : t.val % 4 = 3
    · rw [outsAt0_C m c t h h3]; frame_out
      rw [read_unread_whole, read_unread_whole]
    · rw [outsAt0_B m c t h h3]; frame_out
      rw [read_unread_whole, read_unread_whole]
  rw [e, rows_all, pay3_eq]

set_option maxHeartbeats 1600000 in
/-- The accumulator after the last point of a run: the reference's down projection. -/
theorem acc_last (c : Dev nD) (t : Fin cfg0.N) (hf : t.val % 4 = 3) (i : S1024x1024.Idx) :
    (outsAt0 m c t.val t.isLt).2.2 i = Down m c (ix3 (bt t) (rw_ t (i 0)) (i 1)) := by
  rw [Pipeline.eq_sum_fin_of_reset_step_apply_of_flush (fun n h => (outsAt0 m c n h).2.2) 4 (fun _ => 0) (part m c)
    (acc_first m c) (acc_next m c) t hf i, zero_add]
  pointwise [Down, Cert.RefMlpInnerIdeal.Read.val_main_v31, part]
  refine Fin.sum_mul_add_congr fun s k hl => ?_
  have e1 : ∀ p : Fin 4, (bt (⟨4 * (t.val / 4) + p.val, Pipeline.run_point_lt_of_flush t hf p⟩ : Fin cfg0.N)) = bt t := fun p =>
    Fin.ext (by show (4 * (t.val / 4) + p.val) / 16 = t.val / 16; have := p.isLt; omega)
  have e2 : ∀ (p : Fin 4) (r : Fin 1024), (rw_ (⟨4 * (t.val / 4) + p.val, Pipeline.run_point_lt_of_flush t hf p⟩ : Fin cfg0.N) r) = rw_ t r := fun p r =>
    Fin.ext (by show (4 * (t.val / 4) + p.val) / 4 % 4 * 1024 + _ = t.val / 4 % 4 * 1024 + _; have := p.isLt; omega)
  have e3 : ff (⟨4 * (t.val / 4) + s.val, Pipeline.run_point_lt_of_flush t hf s⟩ : Fin cfg0.N) k = ⟨s.val * 1024 + k.val, hl⟩ :=
    Fin.ext (by show (4 * (t.val / 4) + s.val) % 4 * 1024 + k.val = s.val * 1024 + k.val; have := s.isLt; omega)
  exact Ideal.mul_congr (congrArg _ ((ix3_inj ..).2 ⟨e1 s, e2 s _, e3⟩)) (congrArg _ ((ix2_inj ..).2 ⟨e3, rfl⟩))

set_option maxHeartbeats 1600000 in
/-- The result array of the feed-forward call is the reference's. -/
theorem final (c : Dev nD) : (dats m 0 c).arrAt 6 cfg0.N = G m c := by
  refine (dats m 0 c).arrAt_eq_of_covers 6 _ (by decide +kernel) fun t hf y => ?_
  have h3 : t.val % 4 = 3 := (flush0_6 t).mp hf
  have ha : (outsAt0 m c t.val t.isLt).2.2 = fun i : S1024x1024.Idx => Down m c (ix3 (bt t) (rw_ t (i 0)) (i 1)) :=
    funext (acc_last m c t h3)
  have e : (outsAt0 m c t.val t.isLt).1
      = k0_pay4 (F := Ideal) (iblk m c 0 t) (View.ld (iblk m c 2 t : Vec Ideal S1x6x1024 .f32) (Rect.unit (s := S1x6x1024) ![0, 5, 0] ![1, 1, 1024] inb_S1x6x1024_S1x1x1024_0_5_0)) (outsAt0 m c t.val t.isLt).2.2 := by
    rw [outsAt0_C m c t (by omega) h3]; frame_out; rfl
  blk_simp
  rw [after0_6, e, ha]
  clear e ha
  pointwise [k0_pay4, G, Cert.RefMlpInnerIdeal.Read.val_main_v30, Cert.RefMlpInnerIdeal.Read.val_main_v32, Cert.RefMlpInnerIdeal.Read.val_main_v33,
    Cert.RefMlpInnerIdeal.Read.val_main_v34, Cert.RefMlpInnerIdeal.Read.val_main_v4,
    Cert.RefMlpInnerIdeal.Read.val_main_v5]
  blk_point [iblk, V, idx t]

end Cert.MlpInnerIdeal.Proj

end
-- ==== Proof.AdaVal.lean ====
module

public import proofs.«01_k».proof.Proof.Gen.AdaIdeal.Value
public import proofs.«01_k».proof.Proof.Gen.RefAdaIdeal.Run
public import proofs.«01_k».proof.Proof.Gen.RefAdaIdeal.Read
public import Idealize.ShloMosaic.Lib.Pipeline.ValueKit
public import Idealize.ShloMosaic.Lib.Pointwise

@[expose] public section

set_option maxRecDepth 16384

noncomputable section

namespace Cert.AdaIdeal.Proj

open Cert.AdaIdeal Cert.AdaIdeal.Gen Idealize.ShloMosaic Idealize.ShloMosaic.TcCoe Idealize.SL.Sem

variable (m : (ℓ : Loc nD τ sig) → Buf (Elt Ideal) ℓ)

/-- The reference's array over the kernel's arguments. -/
abbrev G (c : Dev nD) : FVec Ideal S2x4x6144 .f32 :=
  Cert.RefAdaIdeal.Read.val_main_v5 (F := Ideal)
    (m ((c : Thread nD τ).loc main_arg0)) (m ((c : Thread nD τ).loc main_arg1)) (m ((c : Thread nD τ).loc main_arg2))

/-- Every window's block index at every point of the grid. -/
theorem idx : ∀ t : Fin cfg0.N,
    win0_0.index t = ![0, 0] ∧ win0_1.index t = ![t.val / 4, 0, t.val % 4]
      ∧ win0_2.index t = ![t.val / 4, 0, t.val % 4] ∧ win0_3.index t = ![t.val / 4, 0, t.val % 4] ∧ t.val / 4 < 2 :=
  (by decide +kernel : ∀ t : Fin grid0.N, _)

set_option maxHeartbeats 1600000 in
/-- The result array of the modulation call is the reference's. -/
theorem final (c : Dev nD) : (dats m 0 c).arrAt 3 cfg0.N = G m c := by
  refine (dats m 0 c).arrAt_eq_of_covers 3 _ (by decide +kernel) fun t _ y => ?_
  blk_simp
  rw [after0_3]; frame_out
  pointwise [k0_pay1, G, Cert.RefAdaIdeal.Read.val_main_v5, Cert.RefAdaIdeal.Read.val_main_v4, Cert.RefAdaIdeal.Read.val_main_v3,
    Cert.RefAdaIdeal.Read.val_main_v2, Cert.RefAdaIdeal.Read.val_main_v1, Cert.RefAdaIdeal.Read.val_main_v0,
    Cert.RefAdaIdeal.Read.val_main_call0_v0, Cert.RefAdaIdeal.Read.val_main_call0_v1, Cert.RefAdaIdeal.Read.val_main_call0_v2,
    Cert.RefAdaIdeal.Read.val_main_call0_v3, Cert.RefAdaIdeal.Read.val_main_call0_v4, Cert.RefAdaIdeal.Read.val_main_call0_v5,
    Cert.RefAdaIdeal.Read.val_main_call0_cst, Cert.RefAdaIdeal.Read.val_main_call0_cst_0]
  simp only [Ideal.logistic]
  blk_point [iblk, V, idx t]

end Cert.AdaIdeal.Proj

end
-- ==== Proof.SbMath.lean ====
module

public import Idealize.ShloMosaic.Lib.Pointwise

@[expose] public section

noncomputable section

namespace Cert.Stick

open Idealize.ShloMosaic

/-! ## The weights of one query over the reals -/

/-- The softplus, in the form that never overflows. -/
def sp (z : ℝ) : ℝ := max z 0 + Real.log (1 + Real.exp (-|z|))

theorem sub_sp (z : ℝ) : z - sp z = -sp (-z) := by
  have h : max (-z) 0 = max z 0 - z := by
    rcases le_total z 0 with hz | hz
    · rw [max_eq_left (by linarith), max_eq_right hz]; ring
    · rw [max_eq_right (by linarith), max_eq_left hz]; ring
  unfold sp
  rw [abs_neg, h]
  ring

/-- The logarithm of what key `n` leaves of the stick of a query at position `t`; the keys from `t` on leave it whole. -/
def keep (t : ℕ) (z : ℕ → ℝ) (n : ℕ) : ℝ := if n < t then -sp (z n) else 0

/-- The weight key `n` takes: its share of what the keys between it and the query left. -/
def wt (t : ℕ) (z : ℕ → ℝ) (n : ℕ) : ℝ :=
  if n < t then Real.exp (-sp (-z n) + ∑ m ∈ Finset.Ico (n + 1) 4096, keep t z m) else 0

/-! ## Sums of reals inside the extended reals -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The kernel's spelling of the softplus, at a real. -/
theorem spE (z : ℝ) : max (z : EReal) 0 + Ideal.log (1 + Ideal.exp (0 - max (z : EReal) (-(z : EReal)))) = ((sp z : ℝ) : EReal) := by
  have hm : max (z : EReal) (-(z : EReal)) = ((|z| : ℝ) : EReal) := by
    rw [← EReal.coe_neg]; exact (EReal.coe_strictMono.monotone.map_max (a := z) (b := -z)).symm
  have h0 : max (z : EReal) 0 = ((max z 0 : ℝ) : EReal) := by
    exact (EReal.coe_strictMono.monotone.map_max (a := z) (b := 0)).symm
  have hp : ¬ (1 + Real.exp (-|z|)) ≤ 0 := by have := Real.exp_pos (-|z|); linarith
  rw [hm, h0, zero_sub, ← EReal.coe_neg, Ideal.exp_coe, ← EReal.coe_one, ← EReal.coe_add, Ideal.log_coe, if_neg hp,
    ← EReal.coe_add]
  rfl

/-! ## Cutting the keys into blocks of 256 -/

/-- The keys from `n` on are the block at `n` and those behind it. -/
theorem block_cut {M : Type*} [AddCommMonoid M] (f : ℕ → M) (n : ℕ) (hn : n + 256 ≤ 4096) :
    (∑ m ∈ Finset.Ico (n + 256) 4096, f m) + ∑ s : Fin 256, f (n + s) = ∑ m ∈ Finset.Ico n 4096, f m := by
  rw [← Finset.sum_Ico_consecutive f (Nat.le_add_right n 256) hn, add_comm, Finset.sum_Ico_eq_sum_range (n := n + 256),
    Nat.add_sub_cancel_left, Finset.sum_range]

/-- The keys behind `n + s`: those of its block and those behind the block. -/
theorem behind_cut (f : ℕ → ℝ) (n s : ℕ) (hs : s < 256) (hn : n + 256 ≤ 4096) :
    (∑ w : Fin 256, if s < w.val then f (n + w) else 0) + ∑ m ∈ Finset.Ico (n + 256) 4096, f m
      = ∑ m ∈ Finset.Ico (n + s + 1) 4096, f m := by
  rw [← Finset.sum_Ico_consecutive f (show n + s + 1 ≤ n + 256 by omega) hn]
  congr 1
  rw [Fin.sum_univ_eq_sum_range (fun w => if s < w then f (n + w) else 0) 256, ← Finset.sum_filter]
  have : (Finset.range 256).filter (fun w => s < w) = Finset.Ico (s + 1) 256 := by
    ext w; simp only [Finset.mem_filter, Finset.mem_range, Finset.mem_Ico]; omega
  rw [this, Finset.sum_Ico_add f (s + 1) 256 n, show n + s + 1 = s + 1 + n by omega, add_comm 256 n]

/-- A sum over all the keys. -/
theorem all_keys {M : Type*} [AddCommMonoid M] (f : ℕ → M) : ∑ m ∈ Finset.Ico 0 4096, f m = ∑ s : Fin 4096, f s := by
  rw [← Finset.range_eq_Ico, Finset.sum_range]

/-- The keys a query cannot see keep the stick whole. -/
theorem keep_tail (t n : ℕ) (z : ℕ → ℝ) (h : t ≤ n) : ∑ m ∈ Finset.Ico n 4096, keep t z m = 0 :=
  Finset.sum_eq_zero fun m hm => if_neg (by have := (Finset.mem_Ico.mp hm).1; omega)

/-- … and take nothing. -/
theorem wt_tail (t n : ℕ) (z : ℕ → ℝ) (v : ℕ → EReal) (h : t ≤ n) :
    ∑ m ∈ Finset.Ico n 4096, ((wt t z m : ℝ) : EReal) * v m = 0 :=
  Finset.sum_eq_zero fun m hm => by
    rw [wt, if_neg (by have := (Finset.mem_Ico.mp hm).1; omega), EReal.coe_zero, zero_mul]

/-! ## One block of keys in the kernel's spelling -/

/-- The sum the kernel takes with its triangular matrix, its high and its low part, at reals. -/
theorem rev_coe (f : Fin 256 → ℝ) (u : Fin 256 → EReal) (s : ℕ) (hu : ∀ w : Fin 256, u w = if s < w.val then 1 else 0) :
    (∑ w, ((f w : ℝ) : EReal) * u w) + ∑ w, (((f w : ℝ) : EReal) - ((f w : ℝ) : EReal)) * u w
      = ((∑ w : Fin 256, if s < w.val then f w else 0 : ℝ) : EReal) := by
  rw [← coe_sum]
  have h2 : ∑ w, (((f w : ℝ) : EReal) - ((f w : ℝ) : EReal)) * u w = 0 :=
    Finset.sum_eq_zero fun w _ => by rw [← EReal.coe_sub, sub_self, EReal.coe_zero, zero_mul]
  rw [h2, add_zero]
  refine Finset.sum_congr rfl fun w _ => ?_
  rw [hu]
  split_ifs <;> simp

/-- The weight of key `n + s` as the kernel computes it from its block. -/
theorem wt_block (t n : ℕ) (z : ℕ → ℝ) (s : Fin 256) (hn : n + 256 ≤ 4096) (hs : n + s < t) (u : Fin 256 → EReal)
    (hu : ∀ w : Fin 256, u w = if s.val < w.val then 1 else 0) (f : Fin 256 → EReal) (hf : ∀ w : Fin 256, f w = ((keep t z (n + w) : ℝ) : EReal))
    (C : EReal) (hC : C = ((∑ m ∈ Finset.Ico (n + 256) 4096, keep t z m : ℝ) : EReal)) :
    Ideal.exp (((z (n + s) : ℝ) : EReal) - ((sp (z (n + s)) : ℝ) : EReal)
        + ((∑ w, f w * u w) + ∑ w, (f w - f w) * u w) + C)
      = ((wt t z (n + s) : ℝ) : EReal) := by
  obtain rfl : f = fun w : Fin 256 => ((keep t z (n + w) : ℝ) : EReal) := funext hf
  rw [rev_coe (fun w : Fin 256 => keep t z (n + w)) u s.val hu, hC, ← EReal.coe_sub, ← EReal.coe_add, ← EReal.coe_add, Ideal.exp_coe, wt,
    if_pos hs, sub_sp, add_assoc, behind_cut (keep t z) n s.val s.isLt hn]

end Cert.Stick

end
-- ==== Proof.RetMath.lean ====
module

public import proofs.«01_k».proof.Proof.SbMath

@[expose] public section

noncomputable section

namespace Cert.Ret

open Idealize.ShloMosaic

/-! ## Retention over the reals: the decayed sum over the past, cut into blocks of 256 -/

/-- The decay between a query at `t` and a key at `s`, at the rate `g`; a key after the query counts nothing. -/
def wt (g : ℝ) (t s : ℕ) : ℝ := if s ≤ t then Real.exp (((t : ℝ) - s) * g) else 0

/-- The state before block `n`: the products of the keys and the values of the blocks before it, decayed to the
    last position before it. -/
def st (g : ℝ) (k v : ℕ → ℝ) (n : ℕ) : ℝ :=
  ∑ s ∈ Finset.range (n * 256), Real.exp (((n : ℝ) * 256 - 1 - s) * g) * (k s * v s)

theorem st_zero (g : ℝ) (k v : ℕ → ℝ) : st g k v 0 = 0 := by simp [st]

/-- The state one block on. -/
theorem st_succ (g : ℝ) (k v : ℕ → ℝ) (n : ℕ) :
    st g k v (n + 1) = st g k v n * Real.exp (256 * g)
      + ∑ s : Fin 256, (k (n * 256 + s) * Real.exp ((255 - (s.val : ℝ)) * g)) * v (n * 256 + s) := by
  unfold st
  rw [show (n + 1) * 256 = n * 256 + 256 by ring, Finset.sum_range_add, Finset.sum_mul]
  congr 1
  · refine Finset.sum_congr rfl fun s _ => ?_
    rw [mul_right_comm, ← Real.exp_add]
    congr 2
    push_cast
    ring
  · rw [Finset.sum_range]
    refine Finset.sum_congr rfl fun s _ => ?_
    rw [show ((((n + 1 : ℕ) : ℝ) * 256 - 1 - ((n * 256 + s.val : ℕ) : ℝ)) * g) = (255 - (s.val : ℝ)) * g by push_cast; ring]
    ring

/-- The decay is that of the distance. -/
theorem wt_shift (g : ℝ) (n r s : ℕ) : wt g (n + r) (n + s) = wt g r s := by
  unfold wt
  by_cases h : s ≤ r
  · rw [if_pos h, if_pos (by omega)]
    congr 2
    push_cast
    ring
  · rw [if_neg h, if_neg (by omega)]

/-- A query's decayed sum over all the keys: its own block's, and its product with the state before that block. -/
theorem out_cut (g : ℝ) (q : Fin 256 → ℝ) (k : Fin 256 → ℕ → ℝ) (v : ℕ → ℝ) (n r : ℕ) (hn : n < 16) (hr : r < 256) :
    ∑ s : Fin 4096, ((∑ d, q d * k d s) * wt g (n * 256 + r) s) * v s
      = ∑ s : Fin 256, ((∑ d, q d * k d (n * 256 + s)) * wt g r s) * v (n * 256 + s)
        + (∑ d, q d * st g (k d) v n) * Real.exp (((r : ℝ) + 1) * g) := by
  rw [← Finset.sum_range (fun s => ((∑ d, q d * k d s) * wt g (n * 256 + r) s) * v s),
    show 4096 = n * 256 + (256 + (4096 - 256 - n * 256)) by omega, Finset.sum_range_add, Finset.sum_range_add,
    Finset.sum_eq_zero (s := Finset.range (4096 - 256 - n * 256)) fun s _ => by
      rw [wt, if_neg (by omega), mul_zero, zero_mul],
    add_zero, add_comm]
  congr 1
  · rw [Finset.sum_range]
    refine Finset.sum_congr rfl fun s _ => ?_
    rw [wt_shift]
  · unfold st
    simp only [Finset.mul_sum, Finset.sum_mul]
    rw [Finset.sum_comm]
    refine Finset.sum_congr rfl fun d _ => ?_
    refine Finset.sum_congr rfl fun s hs => ?_
    have hs' := Finset.mem_range.mp hs
    rw [wt, if_pos (by omega), show (((n * 256 + r : ℕ) : ℝ) - s) * g = ((n : ℝ) * 256 - 1 - s) * g + ((r : ℝ) + 1) * g by push_cast; ring,
      Real.exp_add]
    ring

/-! ## Extended reals that are reals -/

/-- An extended real that is a real. -/
def IsR (e : EReal) : Prop := e = ((e.toReal : ℝ) : EReal)

theorem isR_coe (r : ℝ) : IsR (r : EReal) := by rw [IsR, EReal.toReal_coe]
theorem isR_of_eq {e : EReal} {r : ℝ} (h : e = (r : EReal)) : IsR e := h ▸ isR_coe r
theorem IsR.add {a b : EReal} (ha : IsR a) (hb : IsR b) : IsR (a + b) := by
  rw [ha, hb, ← EReal.coe_add]; exact isR_coe _
theorem IsR.sub {a b : EReal} (ha : IsR a) (hb : IsR b) : IsR (a - b) := by
  rw [ha, hb, ← EReal.coe_sub]; exact isR_coe _
theorem IsR.mul {a b : EReal} (ha : IsR a) (hb : IsR b) : IsR (a * b) := by
  rw [ha, hb, ← EReal.coe_mul]; exact isR_coe _
theorem IsR.neg {a : EReal} (ha : IsR a) : IsR (-a) := by
  rw [ha, ← EReal.coe_neg]; exact isR_coe _
theorem IsR.exp {a : EReal} (ha : IsR a) : IsR (Ideal.exp a) := by
  rw [ha, Ideal.exp_coe]; exact isR_coe _
theorem IsR.cos {a : EReal} (ha : IsR a) : IsR (Ideal.cos a) := by
  rw [ha]; exact isR_coe _
theorem IsR.sin {a : EReal} (ha : IsR a) : IsR (Ideal.sin a) := by
  rw [ha]; exact isR_coe _
theorem IsR.pow {a b : EReal} (ha : IsR a) (hb : IsR b) : IsR (Ideal.pow a b) := by
  rw [ha, hb]; exact isR_coe _
theorem IsR.div {a b : EReal} (ha : IsR a) (hb : IsR b) (h0 : b ≠ 0) : IsR (Ideal.div a b) := by
  rw [Ideal.div, if_neg h0, ha, hb, ← EReal.coe_inv, ← EReal.coe_mul]; exact isR_coe _

/-- A whole number of 32 bits, read with its sign, below half the range. -/
theorem sitofp_ofNat (n : ℕ) (hn : n < 2 ^ 31) :
    FloatOps.sitofp (F := Ideal) .f32 (BitVec.ofNat 32 n) = ((n : ℝ) : EReal) := by
  show ((((BitVec.ofNat 32 n).toInt : ℤ) : ℝ) : EReal) = _
  have hm : n % 2 ^ 32 = n := Nat.mod_eq_of_lt (by omega)
  have hi : (BitVec.ofNat 32 n).toInt = (n : ℤ) := by
    rw [BitVec.toInt_eq_toNat_of_lt (by rw [BitVec.toNat_ofNat, hm]; omega), BitVec.toNat_ofNat, hm]
  rw [hi, Int.cast_natCast]

/-- The difference of two whole numbers of 32 bits, read with its sign. -/
theorem sitofp_subi (r s : ℕ) (hr : r < 256) (hs : s < 256) :
    FloatOps.sitofp (F := Ideal) .f32 (IntOp.subi (BitVec.ofNat 32 r) (BitVec.ofNat 32 s)) = (((r : ℝ) - s : ℝ) : EReal) := by
  show ((((BitVec.ofNat 32 r - BitVec.ofNat 32 s).toInt : ℤ) : ℝ) : EReal) = _
  have h : ∀ n : ℕ, n < 256 → (BitVec.ofNat 32 n).toInt = (n : ℤ) := fun n hn => by
    have hm : n % 2 ^ 32 = n := Nat.mod_eq_of_lt (by omega)
    rw [BitVec.toInt_eq_toNat_of_lt (by rw [BitVec.toNat_ofNat, hm]; omega), BitVec.toNat_ofNat, hm]
  have e : (BitVec.ofNat 32 r - BitVec.ofNat 32 s).toInt = (r : ℤ) - s := by
    rw [BitVec.toInt_sub, h r hr, h s hs, Int.bmod_eq_of_le (by omega) (by omega)]
  rw [e, Int.cast_sub, Int.cast_natCast, Int.cast_natCast]

/-- The larger of two reals. -/
theorem max_coe (a b : ℝ) : max (a : EReal) (b : EReal) = ((max a b : ℝ) : EReal) :=
  (EReal.coe_strictMono.monotone.map_max (a := a) (b := b)).symm

/-- The queries', the keys' and the values' columns hold reals. -/
def RealQKV (x : (⟨3, ![4, 4096, 11264]⟩ : Shape).Idx → EReal) : Prop :=
  ∀ (b : Fin 4) (t : Fin 4096) (j : Fin 11264), j.val < 4096 → IsR (x (ix3 b t j))

end Cert.Ret

end
-- ==== Proof.SbForm.lean ====
module

public import proofs.«01_k».proof.Proof.SbMath

@[expose] public section

noncomputable section

namespace Cert.Stick

open Idealize.ShloMosaic Idealize.ShloMosaic.Pointwise

/-! ## The stick-breaking mixing of a layer's in-projection -/

/-- The queries' and the keys' columns hold reals. -/
def RealQK (x : (⟨3, ![4, 4096, 11264]⟩ : Shape).Idx → EReal) : Prop :=
  ∀ (b : Fin 4) (t : Fin 4096) (j : Fin 11264), 6144 ≤ j.val → j.val < 8192 → x (ix3 b t j) = (((x (ix3 b t j)).toReal : ℝ) : EReal)

/-- Lane `d` of head `h` of the queries, the keys and the values. -/
abbrev qcol (h : Fin 16) (d : Fin 64) : Fin 11264 := ⟨6144 + (h.val * 64 + d.val), by omega⟩
abbrev kcol (h : Fin 16) (d : Fin 64) : Fin 11264 := ⟨7168 + (h.val * 64 + d.val), by omega⟩
abbrev vcol (h : Fin 16) (d : Fin 64) : Fin 11264 := ⟨8192 + (h.val * 64 + d.val), by omega⟩

/-- The scaled score of the query at `t` with key `n`. -/
def score (x : (⟨3, ![4, 4096, 11264]⟩ : Shape).Idx → EReal) (b : Fin 4) (h : Fin 16) (t : Fin 4096) (n : ℕ) : ℝ :=
  if hn : n < 4096 then (∑ d : Fin 64, (x (ix3 b t (qcol h d))).toReal * (x (ix3 b ⟨n, hn⟩ (kcol h d))).toReal) * (1 / 8) else 0

theorem score_at (x : (⟨3, ![4, 4096, 11264]⟩ : Shape).Idx → EReal) (b : Fin 4) (h : Fin 16) (t s : Fin 4096) :
    score x b h t s.val = (∑ d : Fin 64, (x (ix3 b t (qcol h d))).toReal * (x (ix3 b s (kcol h d))).toReal) * (1 / 8) :=
  dif_pos s.isLt

/-- The mixed values of a query: its weights' sum of the values. -/
def mixed (x : (⟨3, ![4, 4096, 11264]⟩ : Shape).Idx → EReal) (b : Fin 4) (h : Fin 16) (t : Fin 4096) (d : Fin 64) : EReal :=
  ∑ s : Fin 4096, ((wt t.val (score x b h t) s.val : ℝ) : EReal) * x (ix3 b s (vcol h d))

/-- The scores as a sum of extended reals, then scaled. -/
theorem score_coe (x : (⟨3, ![4, 4096, 11264]⟩ : Shape).Idx → EReal) (hx : RealQK x) (b : Fin 4) (h : Fin 16) (t s : Fin 4096) :
    (∑ d : Fin 64, x (ix3 b t (qcol h d)) * x (ix3 b s (kcol h d))) * ((1 / 8 : ℝ) : EReal) = ((score x b h t s.val : ℝ) : EReal) := by
  rw [score_at, EReal.coe_mul, ← coe_sum]
  congr 1
  refine Finset.sum_congr rfl fun d _ => ?_
  rw [EReal.coe_mul, ← hx b t (qcol h d) (by show 6144 ≤ 6144 + _; omega) (by show 6144 + (h.val * 64 + d.val) < _; omega),
    ← hx b s (kcol h d) (by show 6144 ≤ 7168 + _; omega) (by show 7168 + (h.val * 64 + d.val) < _; omega)]

/-- The softplus as the host spells it, at a real. -/
theorem spH (z : ℝ) : max (z : EReal) 0 + Ideal.log (1 + Ideal.exp (-(max (z : EReal) (-(z : EReal))))) = ((sp z : ℝ) : EReal) := by
  rw [← zero_sub]; exact spE z

/-! ## The scale and the bound -/

theorem inf_f32 : Ideal.ofBits .f32 0x7F800000#32 = ⊤ := by
  simp [Ideal.ofBits, Ideal.ieee]

theorem eighth_f32 : Ideal.ofBits .f32 0x3E000000#32 = ((1 / 8 : ℝ) : EReal) := by
  simp [Ideal.ofBits, Ideal.ieee, -EReal.coe_mul]; norm_num

theorem eighth_bf16 : Ideal.ofBits .bf16 0x3E00#16 = ((1 / 8 : ℝ) : EReal) := by
  simp [Ideal.ofBits, Ideal.ieee, -EReal.coe_mul]; norm_num

/-! ## The constants of the retention call -/

theorem two_f32 : Ideal.ofBits .f32 0x40000000#32 = ((2 : ℝ) : EReal) := by
  simp [Ideal.ofBits, Ideal.ieee, -EReal.coe_mul]; norm_num

theorem neg_five_f32 : Ideal.ofBits .f32 0xC0A00000#32 = ((-5 : ℝ) : EReal) := by
  simp [Ideal.ofBits, Ideal.ieee, -EReal.coe_mul]; norm_num

theorem base_f32 : Ideal.ofBits .f32 0x461C4000#32 = ((10000 : ℝ) : EReal) := by
  simp [Ideal.ofBits, Ideal.ieee, -EReal.coe_mul]; norm_num

theorem half_f32 : Ideal.ofBits .f32 0x43000000#32 = ((128 : ℝ) : EReal) := by
  simp [Ideal.ofBits, Ideal.ieee, -EReal.coe_mul]; norm_num

theorem chunk_f32 : Ideal.ofBits .f32 0x43800000#32 = ((256 : ℝ) : EReal) := by
  simp [Ideal.ofBits, Ideal.ieee, -EReal.coe_mul]; norm_num

theorem last_f32 : Ideal.ofBits .f32 0x437F0000#32 = ((255 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem sixteenth_f32 : Ideal.ofBits .f32 0x3D800000#32 = ((1 / 16 : ℝ) : EReal) := by
  simp [Ideal.ofBits, Ideal.ieee, -EReal.coe_mul]; norm_num

end Cert.Stick

end
-- ==== Proof.RetRef.lean ====
module

public import proofs.«01_k».proof.Proof.RetMath
public import proofs.«01_k».proof.Proof.SbForm
public import proofs.«01_k».proof.Proof.Gen.RefRetentionIdeal.Read
public import Idealize.ShloMosaic.Lib.Pipeline.ValueKit
public import Idealize.ShloMosaic.Lib.WordCmp

@[expose] public section

set_option maxRecDepth 16384

noncomputable section

namespace Cert.RefRetentionIdeal.Proj

open Cert.RefRetentionIdeal Cert.RefRetentionIdeal.Gen Cert.RefRetentionIdeal.Read Idealize.ShloMosaic Idealize.ShloMosaic.Pointwise
open Cert.Ret

theorem pos_ref (t : Fin 4096) : val_main_v82 (F := Ideal) (ix1 t) = ((t.val : ℝ) : EReal) := by
  pointwise [val_main_v82]
  exact sitofp_ofNat t.val (by omega)

theorem head_ref (h : Fin 4) : val_main_v75 (F := Ideal) (ix1 h) = ((h.val : ℝ) : EReal) := by
  pointwise [val_main_v75]
  exact sitofp_ofNat h.val (by omega)

/-- A head's rate. -/
def rate (h : Fin 4) : ℝ := Real.log (1 + -Real.rpow 2 (-5 - h.val))

theorem rate_ref (h : Fin 4) : val_main_v81 (F := Ideal) (ix1 h) = ((rate h : ℝ) : EReal) := by
  pointwise [val_main_v81, val_main_v80, val_main_v79, val_main_v78, val_main_v77, val_main_v76, val_main_cst_4, val_main_cst_5]
  rw [head_ref, Cert.Stick.two_f32, Cert.Stick.neg_five_f32, ← EReal.coe_sub]
  have h1 : Real.rpow 2 (-5 - h.val) < 1 :=
    Real.rpow_lt_one_of_one_lt_of_neg (by norm_num) (by have : (0 : ℝ) ≤ h.val := Nat.cast_nonneg _; linarith)
  show Ideal.log (1 + -((Real.rpow 2 (-5 - h.val) : ℝ) : EReal)) = _
  rw [← EReal.coe_neg, ← EReal.coe_one, ← EReal.coe_add, Ideal.log_coe, if_neg (by linarith)]
  rfl

set_option maxHeartbeats 1600000 in
theorem ang_ref (t : Fin 4096) (j : Fin 128) : IsR (val_main_v15 (F := Ideal) (ix2 t j)) := by
  pointwise [val_main_v15, val_main_v14, val_main_v13, val_main_v12, val_main_v11, val_main_v10, val_main_v9, val_main_v8,
    val_main_v7, val_main_v6, val_main_v5, val_main_v4, val_main_cst, val_main_cst_0]
  rw [sitofp_ofNat t.val (by omega), sitofp_ofNat j.val (by omega), Cert.Stick.base_f32, Cert.Stick.half_f32]
  exact (isR_coe _).mul ((isR_coe _).pow ((isR_coe _).neg.div (isR_coe _) (by
    rw [← EReal.coe_zero]; exact fun h => absurd (EReal.coe_injective h) (by norm_num))))

theorem cos_ref (t : Fin 4096) (j : Fin 128) : IsR (val_main_v16 (F := Ideal) (ix2 t j)) := (ang_ref t j).cos
theorem sin_ref (t : Fin 4096) (j : Fin 128) : IsR (val_main_v17 (F := Ideal) (ix2 t j)) := (ang_ref t j).sin

set_option maxHeartbeats 1600000 in
theorem decay_ref (h : Fin 4) (t s : Fin 4096) :
    val_main_v98 (F := Ideal) (ix3 h t s) = ((wt (rate h) t.val s.val : ℝ) : EReal) := by
  pointwise [val_main_v98, val_main_v97, val_main_v96, val_main_v95, val_main_v94, val_main_v93, val_main_v92, val_main_v91, val_main_v90,
    val_main_v89, val_main_v88, val_main_v87, val_main_v86, val_main_v85, val_main_v84, val_main_v83, val_main_call0_v0, val_main_call0_v1,
    val_main_call0_v2, val_main_cst_6, val_main_cst_7, val_main_cst_8]
  rw [pos_ref, pos_ref, rate_ref, ← EReal.coe_sub, ← EReal.coe_zero, max_coe, ← EReal.coe_mul, Ideal.exp_coe]
  unfold wt
  by_cases hs : s.val ≤ t.val
  · have h0 : (0 : ℝ) ≤ (t.val : ℝ) - s.val := sub_nonneg.mpr (Nat.cast_le.mpr hs)
    rw [if_pos hs, if_pos (EReal.coe_le_coe_iff.mpr h0), max_eq_left h0]
  · have h0 : ¬ (0 : ℝ) ≤ (t.val : ℝ) - s.val := fun h => hs (Nat.cast_le.mp (sub_nonneg.mp h))
    rw [if_neg hs, if_neg (fun h => h0 (EReal.coe_le_coe_iff.mp h))]
    exact Ideal.ofBits_zero_f32

variable (x : (⟨S4x4096x11264, .bf16⟩ : BufTy).Contents (Elt Ideal)) (hx : RealQKV x)

include hx

set_option maxHeartbeats 1600000 in
theorem q_ref (b : Fin 4) (h : Fin 4) (t : Fin 4096) (d : Fin 256) : IsR (val_main_v34 (F := Ideal) x (ix4 b h t d)) := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v3, val_main_v2, val_main_v1, val_main_v0]
  split_ifs with hd
  · exact ((hx _ _ _ (by dsimp only; omega)).mul (cos_ref _ _)).sub ((hx _ _ _ (by dsimp only; omega)).mul (sin_ref _ _))
  · exact ((hx _ _ _ (by dsimp only; omega)).mul (sin_ref _ _)).add ((hx _ _ _ (by dsimp only; omega)).mul (cos_ref _ _))
  · rename_i h3; exact absurd rfl h3

set_option maxHeartbeats 1600000 in
theorem k_ref (b : Fin 4) (h : Fin 4) (t : Fin 4096) (d : Fin 256) : IsR (val_main_v70 (F := Ideal) x (ix4 b h t d)) := by
  pointwise [val_main_v70, val_main_v69, val_main_cst_3, val_main_v68, val_main_v67, val_main_v66, val_main_v65, val_main_v64, val_main_v63, val_main_v62, val_main_v61, val_main_v60,
    val_main_v59, val_main_v58, val_main_v57, val_main_v56, val_main_v55, val_main_v54, val_main_v53, val_main_v52, val_main_v37, val_main_v36, val_main_v35, val_main_v0]
  rw [Cert.Stick.sixteenth_f32]
  refine IsR.mul ?_ (isR_coe _)
  split_ifs with hd
  · exact ((hx _ _ _ (by dsimp only; omega)).mul (cos_ref _ _)).sub ((hx _ _ _ (by dsimp only; omega)).mul (sin_ref _ _))
  · exact ((hx _ _ _ (by dsimp only; omega)).mul (sin_ref _ _)).add ((hx _ _ _ (by dsimp only; omega)).mul (cos_ref _ _))
  · rename_i h3; exact absurd rfl h3

theorem v_ref (b : Fin 4) (h : Fin 4) (t : Fin 4096) (e : Fin 512) : IsR (val_main_v73 (F := Ideal) x (ix4 b h t e)) := by
  pointwise [val_main_v73, val_main_v72, val_main_v71, val_main_v0]
  exact hx _ _ _ (by dsimp only; omega)

omit hx

/-! ## The rows as real sequences -/

/-- An array's entries along the sequence, as reals; zero past its end. -/
def seq (f : Fin 4096 → EReal) (n : ℕ) : ℝ := if h : n < 4096 then (f ⟨n, h⟩).toReal else 0

theorem seq_at (f : Fin 4096 → EReal) (s : Fin 4096) : seq f s.val = (f s).toReal := dif_pos s.isLt

/-- A query's lanes, a lane of the keys and a lane of the values. -/
def qr (b h : Fin 4) (t : Fin 4096) (d : Fin 256) : ℝ := (val_main_v34 (F := Ideal) x (ix4 b h t d)).toReal
def kr (b h : Fin 4) (d : Fin 256) : ℕ → ℝ := seq fun s => val_main_v70 (F := Ideal) x (ix4 b h s d)
def vr (b h : Fin 4) (e : Fin 512) : ℕ → ℝ := seq fun s => val_main_v73 (F := Ideal) x (ix4 b h s e)

include hx

theorem q_coe (b h : Fin 4) (t : Fin 4096) (d : Fin 256) : val_main_v34 (F := Ideal) x (ix4 b h t d) = ((qr x b h t d : ℝ) : EReal) :=
  q_ref x hx b h t d
theorem k_coe (b h : Fin 4) (s : Fin 4096) (d : Fin 256) : val_main_v70 (F := Ideal) x (ix4 b h s d) = ((kr x b h d s.val : ℝ) : EReal) := by
  rw [kr, seq_at]; exact k_ref x hx b h s d
theorem v_coe (b h : Fin 4) (s : Fin 4096) (e : Fin 512) : val_main_v73 (F := Ideal) x (ix4 b h s e) = ((vr x b h e s.val : ℝ) : EReal) := by
  rw [vr, seq_at]; exact v_ref x hx b h s e

/-- The reference's mixed values before the norm. -/
theorem o_ref (b h : Fin 4) (t : Fin 4096) (e : Fin 512) : val_main_v103 (F := Ideal) x (ix4 b h t e)
    = ((∑ s : Fin 4096, ((∑ d, qr x b h t d * kr x b h d s.val) * wt (rate h) t.val s.val) * vr x b h e s.val : ℝ) : EReal) := by
  pointwise [val_main_v103, val_main_v102, val_main_v101, val_main_v100, val_main_v99]
  rw [← Cert.Stick.coe_sum]
  refine Finset.sum_congr rfl fun s _ => ?_
  rw [decay_ref, v_coe x hx, EReal.coe_mul, EReal.coe_mul, ← Cert.Stick.coe_sum]
  simp only [q_coe x hx, k_coe x hx, EReal.coe_mul]

end Cert.RefRetentionIdeal.Proj

end
-- ==== Proof.RetVal.lean ====
module

public import proofs.«01_k».proof.Proof.RetRef
public import proofs.«01_k».proof.Proof.Gen.RetentionIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WordCmp

@[expose] public section

set_option maxRecDepth 16384

noncomputable section

namespace Cert.RetentionIdeal.Proj

open Cert.RetentionIdeal Cert.RetentionIdeal.Gen Idealize.ShloMosaic Idealize.ShloMosaic.TcCoe Idealize.SL.Sem
open Idealize.ShloMosaic.Pipeline (Dat)
open Cert.Ret Cert.RefRetentionIdeal.Proj

variable (m : (ℓ : Loc nD τ sig) → Buf (Elt Ideal) ℓ)

/-- The call's argument. -/
abbrev X (c : Dev nD) : FVec Ideal S4x4096x11264 .bf16 := m ((c : Thread nD τ).loc main_arg0)

/-- Every window's block index at every point of the grid. -/
theorem idx : ∀ t : Fin cfg0.N,
    win0_0.index t = ![0, 0]
      ∧ win0_1.index t = ![t.val / 64, t.val % 16, t.val / 16 % 4] ∧ win0_2.index t = ![t.val / 64, t.val % 16, 4 + t.val / 16 % 4]
      ∧ win0_3.index t = ![t.val / 64, t.val % 16, 4 + t.val / 16 % 4] ∧ win0_4.index t = ![t.val / 64, t.val % 16, 8 + t.val / 16 % 4]
      ∧ win0_5.index t = ![t.val % 16, 0] ∧ win0_6.index t = ![t.val % 16, 0]
      ∧ win0_7.index t = ![t.val / 64, t.val % 16, t.val / 16 % 4] ∧ t.val / 64 < 4 :=
  (by decide +kernel : ∀ t : Fin grid0.N, _)

/-- Where the head's two scalars sit in the table. -/
theorem off : ∀ t : Fin cfg0.N, k0_off1 (grid0.coords t) = ![0, t.val / 16 % 4] ∧ k0_off2 (grid0.coords t) = ![1, t.val / 16 % 4] :=
  (by decide +kernel : ∀ t : Fin grid0.N, _)

/-- The batch and the head a point works on. -/
abbrev bt (t : Fin cfg0.N) : Fin 4 := ⟨t.val / 64, (idx t).2.2.2.2.2.2.2.2⟩
abbrev hd (t : Fin cfg0.N) : Fin 4 := ⟨t.val / 16 % 4, Nat.mod_lt _ (by decide)⟩

/-- The position a row of the point's block sits at. -/
abbrev ps (t : Fin cfg0.N) (r : Fin 256) : Fin 4096 :=
  ⟨t.val % 16 * 256 + r.val, by
    have hi := r.isLt; have h := Nat.mod_lt t.val (show 0 < 16 by decide); omega⟩

/-! ## The blocks of a point -/

theorem cos_eq (c : Dev nD) : V m c main_v12 = Cert.RefRetentionIdeal.Read.val_main_v16 (F := Ideal) := by rfl
theorem sin_eq (c : Dev nD) : V m c main_v13 = Cert.RefRetentionIdeal.Read.val_main_v17 (F := Ideal) := by rfl

theorem q_blk (c : Dev nD) (t : Fin cfg0.N) (r d : Fin 256) :
    iblk m c 1 t (ix3 0 r d) = X m c (ix3 (bt t) (ps t r) ⟨t.val / 16 % 4 * 256 + d.val, by omega⟩) := by
  blk_point [iblk, V, idx t]

theorem k_blk (c : Dev nD) (t : Fin cfg0.N) (r d : Fin 256) :
    iblk m c 2 t (ix3 0 r d) = X m c (ix3 (bt t) (ps t r) ⟨1024 + (t.val / 16 % 4 * 256 + d.val), by omega⟩) := by
  blk_point [iblk, V, idx t]

theorem v_blk (c : Dev nD) (t : Fin cfg0.N) (r : Fin 256) (e : Fin 512) :
    iblk m c 3 t (ix3 0 r e) = X m c (ix3 (bt t) (ps t r) ⟨2048 + (t.val / 16 % 4 * 512 + e.val), by omega⟩) := by
  blk_point [iblk, V, idx t]

theorem g_blk (c : Dev nD) (t : Fin cfg0.N) (r : Fin 256) (e : Fin 512) :
    iblk m c 4 t (ix3 0 r e) = X m c (ix3 (bt t) (ps t r) ⟨4096 + (t.val / 16 % 4 * 512 + e.val), by omega⟩) := by
  blk_point [iblk, V, idx t]

theorem cos_blk (c : Dev nD) (t : Fin cfg0.N) (r : Fin 256) (j : Fin 128) :
    iblk m c 5 t (ix2 r j) = Cert.RefRetentionIdeal.Read.val_main_v16 (F := Ideal) (ix2 (ps t r) j) := by
  rw [← cos_eq m c]
  blk_point [iblk, idx t]

theorem sin_blk (c : Dev nD) (t : Fin cfg0.N) (r : Fin 256) (j : Fin 128) :
    iblk m c 6 t (ix2 r j) = Cert.RefRetentionIdeal.Read.val_main_v17 (F := Ideal) (ix2 (ps t r) j) := by
  rw [← sin_eq m c]
  blk_point [iblk, idx t]

/-- The table of scalars: the rates, and under them what a whole block decays by. -/
theorem tab_eq (c : Dev nD) : V m c main_v26 = (concatenate S2x4 0
    [⟨S1x4, broadcastInDim S1x4 ![1] bcast_S4_S1x4_1 (Cert.RefRetentionIdeal.Read.val_main_v81 (F := Ideal))⟩,
     ⟨S1x4, broadcastInDim S1x4 ![1] bcast_S4_S1x4_1 (Host.exp (mulf (F := Ideal) (broadcastInDim S4 ![] bcast_S_S4 (constant S_ .f32 0x43800000#32))
        (Cert.RefRetentionIdeal.Read.val_main_v81 (F := Ideal))))⟩] concatenates_S1x4_S1x4_S2x4_d0 : FVec Ideal S2x4 .f32) := by rfl

theorem tab_blk0 (c : Dev nD) (t : Fin cfg0.N) (h : Fin 4) :
    iblk m c 0 t (ix2 0 h) = ((rate h : ℝ) : EReal) := by
  have e : iblk m c 0 t (ix2 0 h) = V m c main_v26 (ix2 0 h) := by blk_point [iblk, idx t]
  rw [e, tab_eq, ← rate_ref]
  pointwise []

theorem tab_blk1 (c : Dev nD) (t : Fin cfg0.N) (h : Fin 4) :
    iblk m c 0 t (ix2 1 h) = ((Real.exp (256 * rate h) : ℝ) : EReal) := by
  have e : iblk m c 0 t (ix2 1 h) = V m c main_v26 (ix2 1 h) := by blk_point [iblk, idx t]
  rw [e, tab_eq, ← Ideal.exp_coe, EReal.coe_mul, ← rate_ref, ← Cert.Stick.chunk_f32]
  pointwise []

/-- The scalars a point loads. -/
theorem sc1_at (c : Dev nD) (t : Fin cfg0.N) (hin : ∀ a, k0_off1 (grid0.coords t) a + (![1, 1] : Fin 2 → ℕ) a ≤ S2x4.size a) (hne) :
    View.ld (iblk m c 0 t : Vec Ideal S2x4 .f32) (Rect.unit (s := S2x4) (k0_off1 (grid0.coords t)) ![1, 1] hin) (Shape.Idx.first hne)
      = ((rate (hd t) : ℝ) : EReal) := by
  rw [← tab_blk0 m c t]
  refine View.ld_unit_apply_of (S := S2x4) (iblk m c 0 t : Vec Ideal S2x4 .f32) _ _ hin _ (ix2 0 (hd t)) fun a => ?_
  show _ = k0_off1 (grid0.coords t) a + 0
  rw [(off t).1]
  fin_cases a <;> rfl

theorem sc2_at (c : Dev nD) (t : Fin cfg0.N) (hin : ∀ a, k0_off2 (grid0.coords t) a + (![1, 1] : Fin 2 → ℕ) a ≤ S2x4.size a) (hne) :
    View.ld (iblk m c 0 t : Vec Ideal S2x4 .f32) (Rect.unit (s := S2x4) (k0_off2 (grid0.coords t)) ![1, 1] hin) (Shape.Idx.first hne)
      = ((Real.exp (256 * rate (hd t)) : ℝ) : EReal) := by
  rw [← tab_blk1 m c t]
  refine View.ld_unit_apply_of (S := S2x4) (iblk m c 0 t : Vec Ideal S2x4 .f32) _ _ hin _ (ix2 1 (hd t)) fun a => ?_
  show _ = k0_off2 (grid0.coords t) a + 0
  rw [(off t).2]
  fin_cases a <;> rfl

set_option maxHeartbeats 1600000 in
/-- The rotated queries of a point. -/
theorem pay9_at (c : Dev nD) (t : Fin cfg0.N) (r d : Fin 256) :
    k0_pay9 (F := Ideal) (iblk m c 5 t) (iblk m c 6 t) (iblk m c 1 t) (ix2 r d)
      = Cert.RefRetentionIdeal.Read.val_main_v34 (F := Ideal) (X m c) (ix4 (bt t) (hd t) (ps t r) d) := by
  pointwise [k0_pay9, k0_pay7, k0_pay8, Cert.RefRetentionIdeal.Read.val_main_v34, Cert.RefRetentionIdeal.Read.val_main_v33,
    Cert.RefRetentionIdeal.Read.val_main_v32, Cert.RefRetentionIdeal.Read.val_main_v31, Cert.RefRetentionIdeal.Read.val_main_v30,
    Cert.RefRetentionIdeal.Read.val_main_v29, Cert.RefRetentionIdeal.Read.val_main_v28, Cert.RefRetentionIdeal.Read.val_main_v27,
    Cert.RefRetentionIdeal.Read.val_main_v26, Cert.RefRetentionIdeal.Read.val_main_v25, Cert.RefRetentionIdeal.Read.val_main_v24,
    Cert.RefRetentionIdeal.Read.val_main_v23, Cert.RefRetentionIdeal.Read.val_main_v22, Cert.RefRetentionIdeal.Read.val_main_v21,
    Cert.RefRetentionIdeal.Read.val_main_v20, Cert.RefRetentionIdeal.Read.val_main_v19, Cert.RefRetentionIdeal.Read.val_main_v18,
    Cert.RefRetentionIdeal.Read.val_main_v3, Cert.RefRetentionIdeal.Read.val_main_v2, Cert.RefRetentionIdeal.Read.val_main_v1,
    Cert.RefRetentionIdeal.Read.val_main_v0]
  simp only [q_blk, cos_blk, sin_blk]

set_option maxHeartbeats 1600000 in
/-- The rotated and scaled keys of a point. -/
theorem pay10_at (c : Dev nD) (t : Fin cfg0.N) (r d : Fin 256) :
    k0_pay10 (F := Ideal) (iblk m c 5 t) (iblk m c 6 t) (iblk m c 2 t) (ix2 r d)
      = Cert.RefRetentionIdeal.Read.val_main_v70 (F := Ideal) (X m c) (ix4 (bt t) (hd t) (ps t r) d) := by
  pointwise [k0_pay10, k0_pay7, k0_pay8, Cert.RefRetentionIdeal.Read.val_main_v70, Cert.RefRetentionIdeal.Read.val_main_v69,
    Cert.RefRetentionIdeal.Read.val_main_cst_3, Cert.RefRetentionIdeal.Read.val_main_v68, Cert.RefRetentionIdeal.Read.val_main_v67,
    Cert.RefRetentionIdeal.Read.val_main_v66, Cert.RefRetentionIdeal.Read.val_main_v65, Cert.RefRetentionIdeal.Read.val_main_v64,
    Cert.RefRetentionIdeal.Read.val_main_v63, Cert.RefRetentionIdeal.Read.val_main_v62, Cert.RefRetentionIdeal.Read.val_main_v61,
    Cert.RefRetentionIdeal.Read.val_main_v60, Cert.RefRetentionIdeal.Read.val_main_v59, Cert.RefRetentionIdeal.Read.val_main_v58,
    Cert.RefRetentionIdeal.Read.val_main_v57, Cert.RefRetentionIdeal.Read.val_main_v56, Cert.RefRetentionIdeal.Read.val_main_v55,
    Cert.RefRetentionIdeal.Read.val_main_v54, Cert.RefRetentionIdeal.Read.val_main_v53, Cert.RefRetentionIdeal.Read.val_main_v52,
    Cert.RefRetentionIdeal.Read.val_main_v37, Cert.RefRetentionIdeal.Read.val_main_v36, Cert.RefRetentionIdeal.Read.val_main_v35,
    Cert.RefRetentionIdeal.Read.val_main_v0]
  simp only [k_blk, cos_blk, sin_blk]
  rfl

/-! ## What a head's first point stores -/

theorem pay3_at (g : ℝ) (r s : Fin 256) : k0_pay3 (F := Ideal) (g : EReal) (ix2 r s) = ((wt g r.val s.val : ℝ) : EReal) := by
  pointwise [k0_pay3]
  rw [sitofp_subi r.val s.val r.isLt s.isLt, ← EReal.coe_zero, max_coe, ← EReal.coe_mul, Ideal.exp_coe]
  unfold wt
  by_cases hs : s.val ≤ r.val
  · have h0 : (0 : ℝ) ≤ (r.val : ℝ) - s.val := sub_nonneg.mpr (Nat.cast_le.mpr hs)
    rw [if_pos hs, if_pos (EReal.coe_le_coe_iff.mpr h0), max_eq_left h0]
  · have h0 : ¬ (0 : ℝ) ≤ (r.val : ℝ) - s.val := fun h => hs (Nat.cast_le.mp (sub_nonneg.mp h))
    rw [if_neg hs, if_neg (fun h => h0 (EReal.coe_le_coe_iff.mp h))]

theorem pay5_at (g : ℝ) (r : Fin 256) : k0_pay5 (F := Ideal) (g : EReal) (ix2 r 0) = ((Real.exp (((r.val : ℝ) + 1) * g) : ℝ) : EReal) := by
  pointwise [k0_pay5, k0_pay4]
  rw [sitofp_ofNat r.val (by omega), ← EReal.coe_one, ← EReal.coe_add, ← EReal.coe_mul, Ideal.exp_coe]

theorem pay6_at (g : ℝ) (r : Fin 256) : k0_pay6 (F := Ideal) (g : EReal) (ix2 r 0) = ((Real.exp ((255 - (r.val : ℝ)) * g) : ℝ) : EReal) := by
  pointwise [k0_pay6, k0_pay4]
  rw [sitofp_ofNat r.val (by omega), Cert.Stick.last_f32, ← EReal.coe_sub, ← EReal.coe_mul, Ideal.exp_coe]

/-- The state a point leaves over the one it found. -/
theorem pay12_at (g : ℝ) (k : Fin 256 → Fin 256 → ℝ) (v : Fin 256 → ℝ) (z : Fin 256 → ℝ) (R : ℝ) (e : Fin 512) (d : Fin 256)
    (K : FVec Ideal S256x256 .f32) (W : Vec Ideal S1x256x512 .bf16) (A : Vec Ideal S256x512 .f32) (Z : Vec Ideal S256x1 .f32)
    (hK : ∀ s, K (ix2 s d) = ((k s d : ℝ) : EReal)) (hW : ∀ s, W (ix3 0 s e) = ((v s : ℝ) : EReal))
    (hA : A (ix2 d e) = ((R : ℝ) : EReal)) (hZ : ∀ s, Z (ix2 s 0) = ((z s : ℝ) : EReal)) :
    k0_pay12 (F := Ideal) (g : EReal) K W A Z (ix2 d e) = ((R * g + ∑ s, (k s d * z s) * v s : ℝ) : EReal) := by
  pointwise [k0_pay12, k0_pay11]
  simp only [hK, hW, hA, hZ, EReal.coe_add, EReal.coe_mul, ← Cert.Stick.coe_sum]

/-! ## What the points carry -/

/-- The values of a point. -/
theorem v_ix (c : Dev nD) (t : Fin cfg0.N) (s : Fin 256) (e : Fin 512) :
    iblk m c 3 t (ix3 0 s e) = Cert.RefRetentionIdeal.Read.val_main_v73 (F := Ideal) (X m c) (ix4 (bt t) (hd t) (ps t s) e) := by
  pointwise [Cert.RefRetentionIdeal.Read.val_main_v73, Cert.RefRetentionIdeal.Read.val_main_v72, Cert.RefRetentionIdeal.Read.val_main_v71,
    Cert.RefRetentionIdeal.Read.val_main_v0]
  exact v_blk m c t s e

variable (c : Dev nD) (hx : RealQKV (X m c))

include hx

theorem q_at (t : Fin cfg0.N) (r d : Fin 256) :
    k0_pay9 (F := Ideal) (iblk m c 5 t) (iblk m c 6 t) (iblk m c 1 t) (ix2 r d) = ((qr (X m c) (bt t) (hd t) (ps t r) d : ℝ) : EReal) :=
  (pay9_at m c t r d).trans (q_coe _ hx _ _ _ _)
theorem k_at (t : Fin cfg0.N) (s d : Fin 256) :
    k0_pay10 (F := Ideal) (iblk m c 5 t) (iblk m c 6 t) (iblk m c 2 t) (ix2 s d)
      = ((kr (X m c) (bt t) (hd t) d (t.val % 16 * 256 + s.val) : ℝ) : EReal) :=
  (pay10_at m c t s d).trans (k_coe _ hx _ _ _ _)
theorem v_at (t : Fin cfg0.N) (s : Fin 256) (e : Fin 512) :
    iblk m c 3 t (ix3 0 s e) = ((vr (X m c) (bt t) (hd t) e (t.val % 16 * 256 + s.val) : ℝ) : EReal) :=
  (v_ix m c t s e).trans (v_coe _ hx _ _ _ _)

/-- The state of the recurrence before block `n` of a point's batch and head. -/
abbrev S (t : Fin cfg0.N) (n : ℕ) (d : Fin 256) (e : Fin 512) : ℝ :=
  st (rate (hd t)) (kr (X m c) (bt t) (hd t) d) (vr (X m c) (bt t) (hd t) e) n

/-- A point moves the state one block on. -/
theorem state_step (t : Fin cfg0.N) (A : Vec Ideal S256x512 .f32) (Z : Vec Ideal S256x1 .f32)
    (hA : ∀ d e, A (ix2 d e) = ((S m c t (t.val % 16) d e : ℝ) : EReal))
    (hZ : ∀ s : Fin 256, Z (ix2 s 0) = ((Real.exp ((255 - (s.val : ℝ)) * rate (hd t)) : ℝ) : EReal)) (d : Fin 256) (e : Fin 512) :
    k0_pay12 (F := Ideal) ((Real.exp (256 * rate (hd t)) : ℝ) : EReal) (k0_pay10 (iblk m c 5 t) (iblk m c 6 t) (iblk m c 2 t))
      (iblk m c 3 t) A Z (ix2 d e) = ((S m c t (t.val % 16 + 1) d e : ℝ) : EReal) := by
  rw [S, st_succ]
  exact pay12_at _ (fun s d => kr (X m c) (bt t) (hd t) d (t.val % 16 * 256 + s.val)) (fun s => vr (X m c) (bt t) (hd t) e (t.val % 16 * 256 + s.val)) _ _ e d
    _ _ _ _ (fun s => k_at m c hx t s d) (fun s => v_at m c hx t s e) (hA d e) hZ

/-- What the four scratches hold after a point. -/
structure Held (t : Fin cfg0.N) : Prop where
  state : ∀ d e, (outsAt0 m c t.val t.isLt).2.1 (ix2 d e) = ((S m c t (t.val % 16 + 1) d e : ℝ) : EReal)
  dec : ∀ r s : Fin 256, (outsAt0 m c t.val t.isLt).2.2.1 (ix2 r s) = ((wt (rate (hd t)) r.val s.val : ℝ) : EReal)
  xi : ∀ r : Fin 256, (outsAt0 m c t.val t.isLt).2.2.2.1 (ix2 r 0) = ((Real.exp (((r.val : ℝ) + 1) * rate (hd t)) : ℝ) : EReal)
  zeta : ∀ r : Fin 256, (outsAt0 m c t.val t.isLt).2.2.2.2 (ix2 r 0) = ((Real.exp ((255 - (r.val : ℝ)) * rate (hd t)) : ℝ) : EReal)

set_option maxHeartbeats 1600000 in
theorem held_first (t : Fin cfg0.N) (h : t.val % 16 = 0) : Held m c t where
  state d e := by
    rw [outsAt0_A m c t h]; frame_out
    rw [sc1_at, sc2_at]
    refine state_step m c hx t _ _ (fun d e => ?_) (fun s => pay6_at _ s) d e
    rw [S, h, st_zero]
    pointwise [k0_pay2]
    rfl
  dec r s := by
    rw [outsAt0_A m c t h]; frame_out
    rw [sc1_at]; exact pay3_at _ r s
  xi r := by
    rw [outsAt0_A m c t h]; frame_out
    rw [sc1_at]; exact pay5_at _ r
  zeta r := by
    rw [outsAt0_A m c t h]; frame_out
    rw [sc1_at]; exact pay6_at _ r

set_option maxHeartbeats 1600000 in
theorem held_next (t p : Fin cfg0.N) (hp : p.val = t.val - 1) (h : ¬ t.val % 16 = 0) (hh : Held m c p) : Held m c t := by
  have hh' := hh
  obtain ⟨hs, hde, hxi, hze⟩ := hh
  have e1 : hd p = hd t := Fin.ext (by show p.val / 16 % 4 = t.val / 16 % 4; omega)
  have e2 : bt p = bt t := Fin.ext (by show p.val / 64 = t.val / 64; omega)
  have e3 : p.val % 16 + 1 = t.val % 16 := by omega
  rw [e1] at hde hxi hze
  simp only [S, e1, e2, e3] at hs
  obtain ⟨pv, hpv⟩ := p
  dsimp only at hp
  subst hp
  refine ⟨fun d e => ?_, fun r s => ?_, fun r => ?_, fun r => ?_⟩
  · rw [outsAt0_B m c t h]; frame_out
    rw [read_unread_whole, read_unread_whole, sc2_at]
    exact state_step m c hx t _ _ hs hze d e
  · rw [outsAt0_B m c t h]; exact hde r s
  · rw [outsAt0_B m c t h]; exact hxi r
  · rw [outsAt0_B m c t h]; exact hze r

theorem held : ∀ (n : ℕ) (hn : n < cfg0.N), Held m c ⟨n, hn⟩
  | 0, hn => held_first m c hx _ rfl
  | n + 1, hn => by
    by_cases h : (n + 1) % 16 = 0
    · exact held_first m c hx _ h
    · exact held_next m c hx ⟨n + 1, hn⟩ ⟨n, by omega⟩ rfl h (held n _)

/-! ## The rows a point writes -/

/-- The mixed values of a point's row before the norm. -/
theorem o_at (t : Fin cfg0.N) (D : Vec Ideal S256x256 .f32) (A : Vec Ideal S256x512 .f32) (Z : Vec Ideal S256x1 .f32)
    (hD : ∀ r s : Fin 256, D (ix2 r s) = ((wt (rate (hd t)) r.val s.val : ℝ) : EReal))
    (hA : ∀ d e, A (ix2 d e) = ((S m c t (t.val % 16) d e : ℝ) : EReal))
    (hZ : ∀ r : Fin 256, Z (ix2 r 0) = ((Real.exp (((r.val : ℝ) + 1) * rate (hd t)) : ℝ) : EReal)) (r : Fin 256) (e : Fin 512) :
    (∑ s : Fin 256, ((∑ d : Fin 256, k0_pay9 (F := Ideal) (iblk m c 5 t) (iblk m c 6 t) (iblk m c 1 t) (ix2 r d)
        * k0_pay10 (F := Ideal) (iblk m c 5 t) (iblk m c 6 t) (iblk m c 2 t) (ix2 s d)) * D (ix2 r s)) * iblk m c 3 t (ix3 0 s e))
      + (∑ d : Fin 256, k0_pay9 (F := Ideal) (iblk m c 5 t) (iblk m c 6 t) (iblk m c 1 t) (ix2 r d) * A (ix2 d e)) * Z (ix2 r 0)
    = Cert.RefRetentionIdeal.Read.val_main_v103 (F := Ideal) (X m c) (ix4 (bt t) (hd t) (ps t r) e) := by
  rw [o_ref _ hx, out_cut _ _ _ _ _ _ (Nat.mod_lt _ (by decide)) r.isLt]
  simp only [q_at m c hx, k_at m c hx, v_at m c hx, hD, hA, hZ, EReal.coe_add, EReal.coe_mul, ← Cert.Stick.coe_sum]

set_option maxHeartbeats 3200000 in
theorem row_at (t : Fin cfg0.N) (D : Vec Ideal S256x256 .f32) (A : Vec Ideal S256x512 .f32) (Z : Vec Ideal S256x1 .f32)
    (hD : ∀ r s : Fin 256, D (ix2 r s) = ((wt (rate (hd t)) r.val s.val : ℝ) : EReal))
    (hA : ∀ d e, A (ix2 d e) = ((S m c t (t.val % 16) d e : ℝ) : EReal))
    (hZ : ∀ r : Fin 256, Z (ix2 r 0) = ((Real.exp (((r.val : ℝ) + 1) * rate (hd t)) : ℝ) : EReal)) (r : Fin 256) (e : Fin 512) :
    k0_pay1 (F := Ideal)
      (k0_pay13 (k0_pay9 (iblk m c 5 t) (iblk m c 6 t) (iblk m c 1 t)) (k0_pay10 (iblk m c 5 t) (iblk m c 6 t) (iblk m c 2 t)) (iblk m c 3 t) D A Z)
      (k0_pay14 (k0_pay9 (iblk m c 5 t) (iblk m c 6 t) (iblk m c 1 t)) (k0_pay10 (iblk m c 5 t) (iblk m c 6 t) (iblk m c 2 t)) (iblk m c 3 t) D A Z)
      (iblk m c 4 t) (ix3 0 r e)
    = Cert.RefRetentionIdeal.Read.val_main_v126 (F := Ideal) (X m c) (ix3 (bt t) (ps t r) ⟨t.val / 16 % 4 * 512 + e.val, by omega⟩) := by
  have ho := o_at m c hx t D A Z hD hA hZ r
  generalize k0_pay9 (F := Ideal) (iblk m c 5 t) (iblk m c 6 t) (iblk m c 1 t) = Q at ho ⊢
  generalize k0_pay10 (F := Ideal) (iblk m c 5 t) (iblk m c 6 t) (iblk m c 2 t) = K at ho ⊢
  pointwise [k0_pay1, k0_pay13, k0_pay14, k0_pay11, Cert.RefRetentionIdeal.Read.val_main_v126, Cert.RefRetentionIdeal.Read.val_main_v125,
    Cert.RefRetentionIdeal.Read.val_main_v124, Cert.RefRetentionIdeal.Read.val_main_v123, Cert.RefRetentionIdeal.Read.val_main_v122,
    Cert.RefRetentionIdeal.Read.val_main_call1_v5, Cert.RefRetentionIdeal.Read.val_main_call1_v4, Cert.RefRetentionIdeal.Read.val_main_call1_cst_0,
    Cert.RefRetentionIdeal.Read.val_main_call1_v3, Cert.RefRetentionIdeal.Read.val_main_call1_v2, Cert.RefRetentionIdeal.Read.val_main_call1_cst,
    Cert.RefRetentionIdeal.Read.val_main_call1_v1, Cert.RefRetentionIdeal.Read.val_main_call1_v0,
    Cert.RefRetentionIdeal.Read.val_main_v121, Cert.RefRetentionIdeal.Read.val_main_v120, Cert.RefRetentionIdeal.Read.val_main_v119,
    Cert.RefRetentionIdeal.Read.val_main_v118, Cert.RefRetentionIdeal.Read.val_main_v117, Cert.RefRetentionIdeal.Read.val_main_cst_13,
    Cert.RefRetentionIdeal.Read.val_main_v116, Cert.RefRetentionIdeal.Read.val_main_v115, Cert.RefRetentionIdeal.Read.val_main_v114,
    Cert.RefRetentionIdeal.Read.val_main_v113, Cert.RefRetentionIdeal.Read.val_main_cst_12, Cert.RefRetentionIdeal.Read.val_main_v112,
    Cert.RefRetentionIdeal.Read.val_main_v111, Cert.RefRetentionIdeal.Read.val_main_cst_11, Cert.RefRetentionIdeal.Read.val_main_v110,
    Cert.RefRetentionIdeal.Read.val_main_v109, Cert.RefRetentionIdeal.Read.val_main_v108, Cert.RefRetentionIdeal.Read.val_main_v107,
    Cert.RefRetentionIdeal.Read.val_main_v106, Cert.RefRetentionIdeal.Read.val_main_cst_10, Cert.RefRetentionIdeal.Read.val_main_v105,
    Cert.RefRetentionIdeal.Read.val_main_v104, Cert.RefRetentionIdeal.Read.val_main_cst_9, Cert.RefRetentionIdeal.Read.val_main_v74,
    Cert.RefRetentionIdeal.Read.val_main_v0]
  simp only [ho, g_blk]
  have e5 : (t.val / 16 % 4 * 512 + e.val) / 512 = t.val / 16 % 4 := by omega
  simp only [e5, Ideal.logistic]

set_option maxHeartbeats 1600000 in
/-- The result array of the retention call is the reference's. -/
theorem final : (dats m 0 c).arrAt 7 cfg0.N = Cert.RefRetentionIdeal.Read.val_main_v126 (F := Ideal) (X m c) := by
  refine (dats m 0 c).arrAt_eq_of_covers 7 _ (by decide +kernel) fun t hf y => ?_
  obtain ⟨a, r, l, rfl⟩ : ∃ (a : Fin 1) (r : Fin 256) (l : Fin 512), y = ix3 a r l := ⟨y 0, y 1, y 2, eq_ix3 y⟩
  obtain rfl : a = 0 := Subsingleton.elim _ _
  have e : (outsAt0 m c t.val t.isLt).1 (ix3 0 r l)
      = Cert.RefRetentionIdeal.Read.val_main_v126 (F := Ideal) (X m c) (ix3 (bt t) (ps t r) ⟨t.val / 16 % 4 * 512 + l.val, by omega⟩) := by
    generalize hR : Cert.RefRetentionIdeal.Read.val_main_v126 (F := Ideal) (X m c) (ix3 (bt t) (ps t r) ⟨t.val / 16 % 4 * 512 + l.val, by omega⟩) = R
    by_cases h : t.val % 16 = 0
    · rw [outsAt0_A m c t h]; frame_out
      rw [sc1_at]
      subst hR
      refine row_at m c hx t _ _ _ (pay3_at _) (fun d e => ?_) (pay5_at _) r l
      rw [S, h, st_zero]
      pointwise [k0_pay2]
      rfl
    · rw [outsAt0_B m c t h]; frame_out
      rw [read_unread_whole, read_unread_whole, read_unread_whole]
      subst hR
      obtain ⟨hs, hde, hxi, hze⟩ := held m c hx (t.val - 1) (Nat.lt_of_le_of_lt (Nat.sub_le _ _) t.isLt)
      have e1 : hd (⟨t.val - 1, Nat.lt_of_le_of_lt (Nat.sub_le _ _) t.isLt⟩ : Fin cfg0.N) = hd t := Fin.ext (by show (t.val - 1) / 16 % 4 = t.val / 16 % 4; omega)
      have e2 : bt (⟨t.val - 1, Nat.lt_of_le_of_lt (Nat.sub_le _ _) t.isLt⟩ : Fin cfg0.N) = bt t := Fin.ext (by show (t.val - 1) / 64 = t.val / 64; omega)
      have e3 : (t.val - 1) % 16 + 1 = t.val % 16 := by omega
      rw [e1] at hde hxi hze
      simp only [S, e1, e2, e3] at hs
      exact row_at m c hx t _ _ _ hde hs hxi r l
  blk_simp
  rw [after0_7, e]
  blk_point [idx t]

end Cert.RetentionIdeal.Proj

end
-- ==== Proof.RetPre.lean ====
module

public import proofs.«01_k».proof.Proof.RetMath
public import proofs.«01_k».proof.Proof.SbForm
public import proofs.«01_k».proof.Pre_finite_qkv

@[expose] public section

set_option maxRecDepth 16384

noncomputable section

namespace Cert.Ret

open Idealize.ShloMosaic

/-- The precondition: the queries, the keys and the values are reals. -/
theorem real_of_pre [Cert.Pre_finite_qkv.Facts] (x : FVec Ideal Cert.Pre_finite_qkv.S4x4096x11264 .bf16)
    (h : Cert.Pre_finite_qkv.fn (F := Ideal) x = fun _ => 1#1) : RealQKV x := by
  intro b t j hj
  have e := congrFun h (ix3 b t (⟨j.val, hj⟩ : Fin 4096))
  unfold Cert.Pre_finite_qkv.fn at e
  pointwise at e
  rw [Cert.Stick.inf_f32] at e
  have hlt : max (x (ix3 b t j)) (-(x (ix3 b t j))) < ⊤ := by
    by_contra hn
    rw [Ideal.absf_def, decide_eq_false hn] at e
    exact absurd e (by decide)
  refine (EReal.coe_toReal (fun h => ?_) (fun h => ?_)).symm
  · rw [h] at hlt; simp at hlt
  · rw [h] at hlt; simp at hlt

end Cert.Ret

end
-- ==== Proof.MixOutVal.lean ====
module

public import proofs.«01_k».proof.Proof.Gen.MixOutIdeal.Value
public import proofs.«01_k».proof.Proof.Gen.RefMixOutIdeal.Run
public import proofs.«01_k».proof.Proof.Gen.RefMixOutIdeal.Read
public import Idealize.ShloMosaic.Lib.Pipeline.ValueKit
public import Idealize.ShloMosaic.Lib.Pointwise

@[expose] public section

set_option maxRecDepth 16384

noncomputable section

namespace Cert.MixOutIdeal.Proj

open Cert.MixOutIdeal Cert.MixOutIdeal.Gen Idealize.ShloMosaic Idealize.ShloMosaic.TcCoe Idealize.SL.Sem
open Idealize.ShloMosaic.Pipeline (Dat)

variable (m : (ℓ : Loc nD τ sig) → Buf (Elt Ideal) ℓ)

/-- The reference's array over the kernel's arguments. -/
abbrev G (c : Dev nD) : FVec Ideal S4x4096x1024 .f32 :=
  Cert.RefMixOutIdeal.Read.val_main_v29 (F := Ideal)
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- Every window's block index at every point of the grid. -/
theorem idx : ∀ t : Fin cfg0.N,
    win0_0.index t = ![t.val / 8, t.val % 8, 0] ∧ win0_1.index t = ![t.val / 8, t.val % 8, 0]
      ∧ win0_2.index t = ![t.val / 8, t.val % 8, 9] ∧ win0_3.index t = ![t.val / 8, t.val % 8, 10]
      ∧ win0_4.index t = ![t.val / 8, t.val % 8, 0] ∧ win0_5.index t = ![t.val / 8, 0, 0]
      ∧ win0_6.index t = ![0, 0] ∧ win0_7.index t = ![0, 0] ∧ win0_8.index t = ![0, 0]
      ∧ win0_9.index t = ![t.val / 8, t.val % 8, 0] ∧ t.val / 8 < 4 :=
  (by decide +kernel : ∀ t : Fin grid0.N, _)

set_option maxHeartbeats 1600000 in
/-- The result array of the projections is the reference's. -/
theorem final (c : Dev nD) : (dats m 0 c).arrAt 9 cfg0.N = G m c := by
  refine (dats m 0 c).arrAt_eq_of_covers 9 _ (by decide +kernel) fun t _ y => ?_
  blk_simp
  rw [after0_9]; frame_out
  pointwise [k0_pay1, k0_pay2, k0_pay3, G, Cert.RefMixOutIdeal.Read.val_main_v29, Cert.RefMixOutIdeal.Read.val_main_v28,
    Cert.RefMixOutIdeal.Read.val_main_v27, Cert.RefMixOutIdeal.Read.val_main_v26, Cert.RefMixOutIdeal.Read.val_main_v25,
    Cert.RefMixOutIdeal.Read.val_main_v24, Cert.RefMixOutIdeal.Read.val_main_v23, Cert.RefMixOutIdeal.Read.val_main_v22,
    Cert.RefMixOutIdeal.Read.val_main_v21, Cert.RefMixOutIdeal.Read.val_main_v20, Cert.RefMixOutIdeal.Read.val_main_v19,
    Cert.RefMixOutIdeal.Read.val_main_v18, Cert.RefMixOutIdeal.Read.val_main_v17, Cert.RefMixOutIdeal.Read.val_main_v16,
    Cert.RefMixOutIdeal.Read.val_main_v15, Cert.RefMixOutIdeal.Read.val_main_v14, Cert.RefMixOutIdeal.Read.val_main_v13,
    Cert.RefMixOutIdeal.Read.val_main_v12, Cert.RefMixOutIdeal.Read.val_main_v11, Cert.RefMixOutIdeal.Read.val_main_v10,
    Cert.RefMixOutIdeal.Read.val_main_v9, Cert.RefMixOutIdeal.Read.val_main_v8, Cert.RefMixOutIdeal.Read.val_main_v7,
    Cert.RefMixOutIdeal.Read.val_main_v6, Cert.RefMixOutIdeal.Read.val_main_v5, Cert.RefMixOutIdeal.Read.val_main_v4,
    Cert.RefMixOutIdeal.Read.val_main_v3, Cert.RefMixOutIdeal.Read.val_main_v2, Cert.RefMixOutIdeal.Read.val_main_v1,
    Cert.RefMixOutIdeal.Read.val_main_v0, Cert.RefMixOutIdeal.Read.val_main_cst, Cert.RefMixOutIdeal.Read.val_main_cst_0,
    Cert.RefMixOutIdeal.Read.val_main_cst_1, Cert.RefMixOutIdeal.Read.val_main_cst_2]
  simp only [Ideal.logistic]
  blk_point [iblk, V, idx t]

end Cert.MixOutIdeal.Proj

end
-- ==== Proof.InProjVal.lean ====
module

public import proofs.«01_k».proof.Proof.Gen.InProjIdeal.Value
public import proofs.«01_k».proof.Proof.Gen.RefInProjIdeal.Run
public import proofs.«01_k».proof.Proof.Gen.RefInProjIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.InProjIdeal.Proj

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The normalised and modulated rows, as the reference has them, over the kernel's arguments. -/
abbrev H (c : Dev nD) : FVec Ideal S4x4096x1024 .f32 :=
  Cert.RefInProjIdeal.Read.val_main_v24 (F := Ideal)
    (m ((c : Thread nD τ).loc main_arg0)) (m ((c : Thread nD τ).loc main_arg1))
    (m ((c : Thread nD τ).loc main_arg2))

/-- The reference's array over the kernel's arguments. -/
abbrev G (c : Dev nD) : FVec Ideal S4x4096x11264 .bf16 :=
  Cert.RefInProjIdeal.Read.val_main_v26 (F := Ideal)
    (m ((c : Thread nD τ).loc main_arg0)) (m ((c : Thread nD τ).loc main_arg1))
    (m ((c : Thread nD τ).loc main_arg2)) (m ((c : Thread nD τ).loc main_arg3))

/-- Every window's block index at every point of the grid. -/
theorem idx : ∀ t : Fin cfg0.N,
    win0_0.index t = ![t.val / 32, t.val / 4 % 8, 0] ∧ win0_1.index t = ![0, 0]
      ∧ win0_2.index t = ![t.val / 32, 0, 0] ∧ win0_3.index t = ![0, t.val % 4]
      ∧ win0_4.index t = ![t.val / 32, t.val / 4 % 8, t.val % 4] ∧ t.val / 32 < 4 ∧ t.val / 4 % 8 < 8 :=
  (by decide +kernel : ∀ t : Fin grid0.N, _)

/-- What the scratch holds after a point: the point's rows of `H`. -/
def rows (c : Dev nD) (t : Fin cfg0.N) (i : S512x1024.Idx) : EReal :=
  H m c (ix3 ⟨t.val / 32, (idx t).2.2.2.2.2.1⟩
    ⟨t.val / 4 % 8 * 512 + (i 0).val, by
      have h := (idx t).2.2.2.2.2.2; have hi : (i 0).val < 512 := (i 0).isLt; omega⟩ (i 1))

set_option maxHeartbeats 1600000 in
/-- At the first point of a run the body stores those rows. -/
theorem rows_first (c : Dev nD) (t : Fin cfg0.N) (h : t.val % 4 = 0) (i : S512x1024.Idx) :
    (outsAt0 m c t.val t.isLt).2 i = rows m c t i := by
  rw [outsAt0_A m c t h]; frame_out
  unfold rows
  pointwise [k0_pay1, H, Cert.RefInProjIdeal.Read.val_main_v0, Cert.RefInProjIdeal.Read.val_main_v1, Cert.RefInProjIdeal.Read.val_main_v2,
    Cert.RefInProjIdeal.Read.val_main_v3, Cert.RefInProjIdeal.Read.val_main_v4, Cert.RefInProjIdeal.Read.val_main_cst,
    Cert.RefInProjIdeal.Read.val_main_v5, Cert.RefInProjIdeal.Read.val_main_v6, Cert.RefInProjIdeal.Read.val_main_cst_0,
    Cert.RefInProjIdeal.Read.val_main_v7, Cert.RefInProjIdeal.Read.val_main_v8, Cert.RefInProjIdeal.Read.val_main_cst_1,
    Cert.RefInProjIdeal.Read.val_main_v9, Cert.RefInProjIdeal.Read.val_main_v10, Cert.RefInProjIdeal.Read.val_main_v11,
    Cert.RefInProjIdeal.Read.val_main_v12, Cert.RefInProjIdeal.Read.val_main_v13, Cert.RefInProjIdeal.Read.val_main_v14,
    Cert.RefInProjIdeal.Read.val_main_v15, Cert.RefInProjIdeal.Read.val_main_v16, Cert.RefInProjIdeal.Read.val_main_v17,
    Cert.RefInProjIdeal.Read.val_main_cst_2, Cert.RefInProjIdeal.Read.val_main_v18, Cert.RefInProjIdeal.Read.val_main_v19,
    Cert.RefInProjIdeal.Read.val_main_v20, Cert.RefInProjIdeal.Read.val_main_v21, Cert.RefInProjIdeal.Read.val_main_v22,
    Cert.RefInProjIdeal.Read.val_main_v23, Cert.RefInProjIdeal.Read.val_main_v24]
  blk_point [iblk, V, idx t]

/-- At the other points of the run the scratch is as the point before left it. -/
theorem rows_held (c : Dev nD) (t : Fin cfg0.N) (h : ¬t.val % 4 = 0) (i : S512x1024.Idx) :
    (outsAt0 m c t.val t.isLt).2 i
      = (outsAt0 m c (t.val - 1) (Nat.lt_of_le_of_lt (Nat.sub_le _ _) t.isLt)).2 i := by
  rw [outsAt0_B m c t h]; rfl

/-- At every point the scratch holds the point's rows of `H`. -/
theorem rows_all (c : Dev nD) (t : Fin cfg0.N) (i : S512x1024.Idx) :
    (outsAt0 m c t.val t.isLt).2 i = rows m c t i := by
  rw [Pipeline.eq_of_write_hold_apply (fun n h => (outsAt0 m c n h).2) 4 (rows m c) (rows_first m c)
    (rows_held m c) t i]
  unfold rows
  refine congrArg _ ((ix3_inj ..).2 ⟨Fin.ext ?_, Fin.ext ?_, rfl⟩)
  · show 4 * (t.val / 4) / 32 = t.val / 32
    omega
  · show 4 * (t.val / 4) / 4 % 8 * 512 + _ = t.val / 4 % 8 * 512 + _
    omega

set_option maxHeartbeats 1600000 in
/-- The result array of the in-projection is the reference's. -/
theorem final (c : Dev nD) : (dats m 0 c).arrAt 4 cfg0.N = G m c := by
  refine (dats m 0 c).arrAt_eq_of_covers 4 _ (by decide +kernel) fun t _ y => ?_
  have hr := rows_all m c t
  blk_simp
  rw [after0_4]
  have e : (outsAt0 m c t.val t.isLt).1 = k0_pay2 (F := Ideal) (outsAt0 m c t.val t.isLt).2 (iblk m c 3 t) := by
    by_cases h : t.val % 4 = 0
    · rw [outsAt0_A m c t h]; frame_out
    · have hs : (outsAt0 m c t.val t.isLt).2
          = (outsAt0 m c (t.val - 1) (Nat.lt_of_le_of_lt (Nat.sub_le _ _) t.isLt)).2 := funext (rows_held m c t h)
      rw [hs, outsAt0_B m c t h]; frame_out
      rw [read_unread_whole]
  rw [e]
  have e2 : (outsAt0 m c t.val t.isLt).2 = rows m c t := funext hr
  rw [e2]
  clear e e2 hr
  pointwise [k0_pay2, G, Cert.RefInProjIdeal.Read.val_main_v26, Cert.RefInProjIdeal.Read.val_main_v25, rows]
  blk_point [iblk, V, idx t]

end Cert.InProjIdeal.Proj

end
-- ==== Proof.MlpVal.lean ====
module

public import proofs.«01_k».proof.Proof.Gen.MlpIdeal.Value
public import proofs.«01_k».proof.Proof.Gen.RefMlpIdeal.Run
public import proofs.«01_k».proof.Proof.Gen.RefMlpIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.MlpIdeal.Proj

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- The normalised and modulated rows, as the reference has them, over the kernel's arguments. -/
abbrev H (c : Dev nD) : FVec Ideal S4x4096x1024 .f32 :=
  Cert.RefMlpIdeal.Read.val_main_v26 (F := Ideal)
    (m ((c : Thread nD τ).loc main_arg0)) (m ((c : Thread nD τ).loc main_arg1))
    (m ((c : Thread nD τ).loc main_arg2))

/-- The squared rectified hidden layer of the reference over the kernel's arguments. -/
abbrev U (c : Dev nD) : FVec Ideal Cert.RefMlpIdeal.S4x4096x4096 .f32 :=
  Cert.RefMlpIdeal.Read.val_main_v29 (F := Ideal)
    (m ((c : Thread nD τ).loc main_arg0)) (m ((c : Thread nD τ).loc main_arg1))
    (m ((c : Thread nD τ).loc main_arg2)) (m ((c : Thread nD τ).loc main_arg3))

/-- The down projection of the reference over the kernel's arguments. -/
abbrev Down (c : Dev nD) : FVec Ideal S4x4096x1024 .f32 :=
  Cert.RefMlpIdeal.Read.val_main_v31 (F := Ideal)
    (m ((c : Thread nD τ).loc main_arg0)) (m ((c : Thread nD τ).loc main_arg1))
    (m ((c : Thread nD τ).loc main_arg2)) (m ((c : Thread nD τ).loc main_arg3))
    (m ((c : Thread nD τ).loc main_arg4))

/-- The reference's array over the kernel's arguments. -/
abbrev G (c : Dev nD) : FVec Ideal S4x4096x1024 .f32 :=
  Cert.RefMlpIdeal.Read.val_main_v47 (F := Ideal)
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- Every window's block index at every point of the grid. -/
theorem idx : ∀ t : Fin cfg0.N,
    win0_0.index t = ![t.val / 16, t.val / 4 % 4, 0] ∧ win0_1.index t = ![0, 0]
      ∧ win0_2.index t = ![t.val / 16, 0, 0] ∧ win0_3.index t = ![0, t.val % 4]
      ∧ win0_4.index t = ![t.val % 4, 0] ∧ win0_5.index t = ![0, 0]
      ∧ win0_6.index t = ![t.val / 16, t.val / 4 % 4, 0] ∧ t.val / 16 < 4 ∧ t.val / 4 % 4 < 4 :=
  (by decide +kernel : ∀ t : Fin grid0.N, _)

/-- The batch a point works on. -/
abbrev bt (t : Fin cfg0.N) : Fin 4 := ⟨t.val / 16, (idx t).2.2.2.2.2.2.2.1⟩

/-- The row of the array a row of the point's block sits at. -/
abbrev rw_ (t : Fin cfg0.N) (r : Fin 1024) : Fin 4096 :=
  ⟨t.val / 4 % 4 * 1024 + r.val, by
    have h := (idx t).2.2.2.2.2.2.2.2; have hi := r.isLt; omega⟩

/-- The hidden lane a lane of the point's block sits at. -/
abbrev ff (t : Fin cfg0.N) (l : Fin 1024) : Fin 4096 :=
  ⟨t.val % 4 * 1024 + l.val, by have hi := l.isLt; have h := Nat.mod_lt t.val (show 0 < 4 by decide); omega⟩

/-- What the first scratch holds after a point: the point's rows of `H`. -/
def rows (c : Dev nD) (t : Fin cfg0.N) (i : S1024x1024.Idx) : EReal :=
  H m c (ix3 (bt t) (rw_ t (i 0)) (i 1))

/-- A point's part of the down projection. -/
def part (c : Dev nD) (t : Fin cfg0.N) (i : S1024x1024.Idx) : EReal :=
  ∑ l : Fin 1024, U m c (ix3 (bt t) (rw_ t (i 0)) (ff t l))
    * (show FVec Ideal S4096x1024 .f32 from m ((c : Thread nD τ).loc main_arg4)) (ix2 (ff t l) (i 1))

set_option maxHeartbeats 1600000 in
/-- At the first point of a run the body stores those rows. -/
theorem rows_first (c : Dev nD) (t : Fin cfg0.N) (h : t.val % 4 = 0) (i : S1024x1024.Idx) :
    (outsAt0 m c t.val t.isLt).2.1 i = rows m c t i := by
  rw [outsAt0_A m c t h (by omega)]; frame_out
  unfold rows
  pointwise [k0_pay1, H, Cert.RefMlpIdeal.Read.val_main_v0, Cert.RefMlpIdeal.Read.val_main_v1, Cert.RefMlpIdeal.Read.val_main_v2,
    Cert.RefMlpIdeal.Read.val_main_v3, Cert.RefMlpIdeal.Read.val_main_v4, Cert.RefMlpIdeal.Read.val_main_v5,
    Cert.RefMlpIdeal.Read.val_main_v6, Cert.RefMlpIdeal.Read.val_main_cst, Cert.RefMlpIdeal.Read.val_main_v7,
    Cert.RefMlpIdeal.Read.val_main_v8, Cert.RefMlpIdeal.Read.val_main_cst_0, Cert.RefMlpIdeal.Read.val_main_v9,
    Cert.RefMlpIdeal.Read.val_main_v10, Cert.RefMlpIdeal.Read.val_main_cst_1, Cert.RefMlpIdeal.Read.val_main_v11,
    Cert.RefMlpIdeal.Read.val_main_v12, Cert.RefMlpIdeal.Read.val_main_v13, Cert.RefMlpIdeal.Read.val_main_v14,
    Cert.RefMlpIdeal.Read.val_main_v15, Cert.RefMlpIdeal.Read.val_main_v16, Cert.RefMlpIdeal.Read.val_main_v17,
    Cert.RefMlpIdeal.Read.val_main_v18, Cert.RefMlpIdeal.Read.val_main_v19, Cert.RefMlpIdeal.Read.val_main_cst_2,
    Cert.RefMlpIdeal.Read.val_main_v20, Cert.RefMlpIdeal.Read.val_main_v21, Cert.RefMlpIdeal.Read.val_main_v22,
    Cert.RefMlpIdeal.Read.val_main_v23, Cert.RefMlpIdeal.Read.val_main_v24, Cert.RefMlpIdeal.Read.val_main_v25,
    Cert.RefMlpIdeal.Read.val_main_v26]
  blk_point [iblk, V, idx t]

/-- At the other points of the run the first scratch is as the point before left it. -/
theorem rows_keep (c : Dev nD) (t : Fin cfg0.N) (h : ¬t.val % 4 = 0) :
    (outsAt0 m c t.val t.isLt).2.1
      = (outsAt0 m c (t.val - 1) (Nat.lt_of_le_of_lt (Nat.sub_le _ _) t.isLt)).2.1 := by
  by_cases h3 : t.val % 4 = 3
  · rw [outsAt0_C m c t h h3]; rfl
  · rw [outsAt0_B m c t h h3]; rfl

/-- At every point the first scratch holds the point's rows of `H`. -/
theorem rows_all (c : Dev nD) (t : Fin cfg0.N) : (outsAt0 m c t.val t.isLt).2.1 = rows m c t := by
  funext i
  rw [Pipeline.eq_of_write_hold_apply (fun n h => (outsAt0 m c n h).2.1) 4 (rows m c) (rows_first m c)
    (fun t h i => congrFun (rows_keep m c t h) i) t i]
  unfold rows
  refine congrArg _ ((ix3_inj ..).2 ⟨Fin.ext ?_, Fin.ext ?_, rfl⟩)
  · show 4 * (t.val / 4) / 16 = t.val / 16
    omega
  · show 4 * (t.val / 4) / 4 % 4 * 1024 + _ = t.val / 4 % 4 * 1024 + _
    omega

set_option maxHeartbeats 1600000 in
/-- The accumulating payload adds the point's part. -/
theorem pay3_eq (c : Dev nD) (t : Fin cfg0.N) (acc : Vec Ideal S1024x1024 .f32) (i : S1024x1024.Idx) :
    k0_pay3 (F := Ideal) (rows m c t) (iblk m c 3 t) acc (iblk m c 4 t) i = acc i + part m c t i := by
  unfold part
  pointwise [k0_pay3, U, Cert.RefMlpIdeal.Read.val_main_v27, Cert.RefMlpIdeal.Read.val_main_call0_cst, Cert.RefMlpIdeal.Read.val_main_call0_v0,
    Cert.RefMlpIdeal.Read.val_main_v28, Cert.RefMlpIdeal.Read.val_main_v29, rows]
  blk_point [iblk, V, idx t]

/-- The accumulator after the first point of a run. -/
theorem acc_first (c : Dev nD) (t : Fin cfg0.N) (h : t.val % 4 = 0) (i : S1024x1024.Idx) :
    (outsAt0 m c t.val t.isLt).2.2 i = 0 + part m c t i := by
  have e : (outsAt0 m c t.val t.isLt).2.2
      = k0_pay3 (F := Ideal) (outsAt0 m c t.val t.isLt).2.1 (iblk m c 3 t) (k0_pay2 (F := Ideal)) (iblk m c 4 t) := by
    rw [outsAt0_A m c t h (by omega)]; frame_out
  rw [e, rows_all, pay3_eq]
  pointwise [k0_pay2]

/-- The accumulator after another point of a run. -/
theorem acc_next (c : Dev nD) (t : Fin cfg0.N) (h : ¬t.val % 4 = 0) (i : S1024x1024.Idx) :
    (outsAt0 m c t.val t.isLt).2.2 i
      = (outsAt0 m c (t.val - 1) (Nat.lt_of_le_of_lt (Nat.sub_le _ _) t.isLt)).2.2 i + part m c t i := by
  have e : (outsAt0 m c t.val t.isLt).2.2
      = k0_pay3 (F := Ideal) (outsAt0 m c t.val t.isLt).2.1 (iblk m c 3 t)
          (outsAt0 m c (t.val - 1) (Nat.lt_of_le_of_lt (Nat.sub_le _ _) t.isLt)).2.2 (iblk m c 4 t) := by
    rw [rows_keep m c t h]
    by_cases h3 : t.val % 4 = 3
    · rw [outsAt0_C m c t h h3]; frame_out
      rw [read_unread_whole, read_unread_whole]
    · rw [outsAt0_B m c t h h3]; frame_out
      rw [read_unread_whole, read_unread_whole]
  rw [e, rows_all, pay3_eq]

set_option maxHeartbeats 1600000 in
/-- The accumulator after the last point of a run: the reference's down projection. -/
theorem acc_last (c : Dev nD) (t : Fin cfg0.N) (hf : t.val % 4 = 3) (i : S1024x1024.Idx) :
    (outsAt0 m c t.val t.isLt).2.2 i = Down m c (ix3 (bt t) (rw_ t (i 0)) (i 1)) := by
  rw [Pipeline.eq_sum_fin_of_reset_step_apply_of_flush (fun n h => (outsAt0 m c n h).2.2) 4 (fun _ => 0) (part m c)
    (acc_first m c) (acc_next m c) t hf i, zero_add]
  pointwise [Down, Cert.RefMlpIdeal.Read.val_main_v31, part]
  refine Fin.sum_mul_add_congr fun s k hl => ?_
  have e1 : ∀ p : Fin 4, (bt (⟨4 * (t.val / 4) + p.val, Pipeline.run_point_lt_of_flush t hf p⟩ : Fin cfg0.N)) = bt t := fun p =>
    Fin.ext (by show (4 * (t.val / 4) + p.val) / 16 = t.val / 16; have := p.isLt; omega)
  have e2 : ∀ (p : Fin 4) (r : Fin 1024), (rw_ (⟨4 * (t.val / 4) + p.val, Pipeline.run_point_lt_of_flush t hf p⟩ : Fin cfg0.N) r) = rw_ t r := fun p r =>
    Fin.ext (by show (4 * (t.val / 4) + p.val) / 4 % 4 * 1024 + _ = t.val / 4 % 4 * 1024 + _; have := p.isLt; omega)
  have e3 : ff (⟨4 * (t.val / 4) + s.val, Pipeline.run_point_lt_of_flush t hf s⟩ : Fin cfg0.N) k = ⟨s.val * 1024 + k.val, hl⟩ :=
    Fin.ext (by show (4 * (t.val / 4) + s.val) % 4 * 1024 + k.val = s.val * 1024 + k.val; have := s.isLt; omega)
  exact Ideal.mul_congr (congrArg _ ((ix3_inj ..).2 ⟨e1 s, e2 s _, e3⟩)) (congrArg _ ((ix2_inj ..).2 ⟨e3, rfl⟩))

set_option maxHeartbeats 1600000 in
/-- The result array of the feed-forward call is the reference's. -/
theorem final (c : Dev nD) : (dats m 0 c).arrAt 6 cfg0.N = G m c := by
  refine (dats m 0 c).arrAt_eq_of_covers 6 _ (by decide +kernel) fun t hf y => ?_
  have h3 : t.val % 4 = 3 := (flush0_6 t).mp hf
  have ha : (outsAt0 m c t.val t.isLt).2.2 = fun i : S1024x1024.Idx => Down m c (ix3 (bt t) (rw_ t (i 0)) (i 1)) :=
    funext (acc_last m c t h3)
  have e : (outsAt0 m c t.val t.isLt).1
      = k0_pay4 (F := Ideal) (iblk m c 0 t) (View.ld (iblk m c 2 t : Vec Ideal S1x6x1024 .f32) (Rect.unit (s := S1x6x1024) ![0, 5, 0] ![1, 1, 1024] inb_S1x6x1024_S1x1x1024_0_5_0)) (outsAt0 m c t.val t.isLt).2.2 (iblk m c 5 t) := by
    rw [outsAt0_C m c t (by omega) h3]; frame_out; rfl
  blk_simp
  rw [after0_6, e, ha]
  clear e ha
  pointwise [k0_pay4, G, Cert.RefMlpIdeal.Read.val_main_v30, Cert.RefMlpIdeal.Read.val_main_v32, Cert.RefMlpIdeal.Read.val_main_v33,
    Cert.RefMlpIdeal.Read.val_main_v34, Cert.RefMlpIdeal.Read.val_main_v35, Cert.RefMlpIdeal.Read.val_main_cst_3,
    Cert.RefMlpIdeal.Read.val_main_v36, Cert.RefMlpIdeal.Read.val_main_v37, Cert.RefMlpIdeal.Read.val_main_cst_4,
    Cert.RefMlpIdeal.Read.val_main_v38, Cert.RefMlpIdeal.Read.val_main_v39, Cert.RefMlpIdeal.Read.val_main_cst_5,
    Cert.RefMlpIdeal.Read.val_main_v40, Cert.RefMlpIdeal.Read.val_main_v41, Cert.RefMlpIdeal.Read.val_main_v42,
    Cert.RefMlpIdeal.Read.val_main_v43, Cert.RefMlpIdeal.Read.val_main_v44, Cert.RefMlpIdeal.Read.val_main_v45,
    Cert.RefMlpIdeal.Read.val_main_v46, Cert.RefMlpIdeal.Read.val_main_v47, Cert.RefMlpIdeal.Read.val_main_v4,
    Cert.RefMlpIdeal.Read.val_main_v5]
  blk_point [iblk, V, idx t]

end Cert.MlpIdeal.Proj

end
-- ==== Proof.SbBlock.lean ====
module

public import proofs.«01_k».proof.Proof.SbMath
public import proofs.«01_k».proof.Proof.Gen.KernelIdeal.Value
public import Idealize.ShloMosaic.Lib.Pipeline.ValueKit
public import Idealize.ShloMosaic.Lib.Pipeline.ReadBack
public import Idealize.ShloMosaic.Lib.WritesUnit
public import Idealize.ShloMosaic.Lib.Pointwise

@[expose] public section

set_option maxRecDepth 16384

noncomputable section

namespace Cert.KernelIdeal.Proj

open Cert.KernelIdeal Cert.KernelIdeal.Gen Idealize.ShloMosaic Idealize.ShloMosaic.TcCoe Idealize.SL.Sem
open Cert.Stick

/-! ## The scalar forms -/

/-- The kernel's softplus of a real score. -/
theorem sp_of (x : EReal) (z : ℝ) (h : x = (z : EReal)) :
    max x 0 + Ideal.log (1 + Ideal.exp (0 - FloatOps.absf (F := Ideal) (φ := .f32) x)) = ((sp z : ℝ) : EReal) := by
  subst h; exact spE z

/-- What a block before the diagonal adds to a row of the result. -/
theorem acc_full (t n : ℕ) (z : ℕ → ℝ) (v : ℕ → EReal) (hn : n + 256 ≤ 4096) (ht : n + 256 ≤ t)
    (X : Fin 256 → EReal) (hX : ∀ s : Fin 256, X s = ((z (n + s) : ℝ) : EReal))
    (u : Fin 256 → Fin 256 → EReal) (hu : ∀ w s : Fin 256, u w s = if s.val < w.val then 1 else 0)
    (V : Fin 256 → EReal) (hV : ∀ s : Fin 256, V s = v (n + s))
    (A C : EReal) (hA : A = ∑ m ∈ Finset.Ico (n + 256) 4096, ((wt t z m : ℝ) : EReal) * v m)
    (hC : C = ((∑ m ∈ Finset.Ico (n + 256) 4096, keep t z m : ℝ) : EReal)) :
    A + ∑ s, Ideal.exp (X s - (max (X s) 0 + Ideal.log (1 + Ideal.exp (0 - FloatOps.absf (F := Ideal) (φ := .f32) (X s))))
        + ((∑ w, (0 - (max (X w) 0 + Ideal.log (1 + Ideal.exp (0 - FloatOps.absf (F := Ideal) (φ := .f32) (X w))))) * u w s)
          + ∑ w, (0 - (max (X w) 0 + Ideal.log (1 + Ideal.exp (0 - FloatOps.absf (F := Ideal) (φ := .f32) (X w))))
              - (0 - (max (X w) 0 + Ideal.log (1 + Ideal.exp (0 - FloatOps.absf (F := Ideal) (φ := .f32) (X w)))))) * u w s) + C) * V s
      = ∑ m ∈ Finset.Ico n 4096, ((wt t z m : ℝ) : EReal) * v m := by
  rw [← block_cut (fun m => ((wt t z m : ℝ) : EReal) * v m) n hn, hA]
  congr 1
  refine Finset.sum_congr rfl fun s _ => ?_
  have hsp : ∀ w, max (X w) 0 + Ideal.log (1 + Ideal.exp (0 - FloatOps.absf (F := Ideal) (φ := .f32) (X w))) = ((sp (z (n + w.val)) : ℝ) : EReal) :=
    fun w => sp_of _ _ (hX w)
  have hk : ∀ w : Fin 256, (0 : EReal) - ((sp (z (n + w.val)) : ℝ) : EReal) = ((keep t z (n + w) : ℝ) : EReal) := fun w => by
    rw [keep, if_pos (by have := w.isLt; omega), zero_sub, EReal.coe_neg]
  simp only [hsp, hk]
  rw [hX, hV]
  congr 1
  exact wt_block t n z s hn (by have := s.isLt; omega) (fun w => u w s) (fun w => hu w s) _ (fun _ => rfl) C hC

/-- What it takes off the stick. -/
theorem carry_full (t n : ℕ) (z : ℕ → ℝ) (hn : n + 256 ≤ 4096) (ht : n + 256 ≤ t)
    (X : Fin 256 → EReal) (hX : ∀ s : Fin 256, X s = ((z (n + s) : ℝ) : EReal))
    (C : EReal) (hC : C = ((∑ m ∈ Finset.Ico (n + 256) 4096, keep t z m : ℝ) : EReal)) :
    C + ∑ s, (0 - (max (X s) 0 + Ideal.log (1 + Ideal.exp (0 - FloatOps.absf (F := Ideal) (φ := .f32) (X s)))))
      = ((∑ m ∈ Finset.Ico n 4096, keep t z m : ℝ) : EReal) := by
  rw [← block_cut (keep t z) n hn, hC, EReal.coe_add, ← coe_sum Finset.univ]
  congr 1
  refine Finset.sum_congr rfl fun s _ => ?_
  rw [sp_of _ _ (hX s), keep, if_pos (by have := s.isLt; omega), zero_sub, EReal.coe_neg]

/-- What the diagonal block leaves in a row of the result: the masked keys take nothing. -/
theorem acc_diag (n : ℕ) (r : Fin 256) (z : ℕ → ℝ) (v : ℕ → EReal) (hn : n + 256 ≤ 4096)
    (X : Fin 256 → EReal) (hX : ∀ s : Fin 256, X s = ((z (n + s) : ℝ) : EReal))
    (u : Fin 256 → Fin 256 → EReal) (hu : ∀ w s : Fin 256, u w s = if s.val < w.val then 1 else 0)
    (V : Fin 256 → EReal) (hV : ∀ s : Fin 256, V s = v (n + s))
    (A C : EReal) (hA : A = 0) (hC : C = 0) :
    A + ∑ s : Fin 256, (if s.val < r.val then Ideal.exp (X s - (max (X s) 0 + Ideal.log (1 + Ideal.exp (0 - FloatOps.absf (F := Ideal) (φ := .f32) (X s))))
        + ((∑ w : Fin 256, if w.val < r.val then (0 - (max (X w) 0 + Ideal.log (1 + Ideal.exp (0 - FloatOps.absf (F := Ideal) (φ := .f32) (X w))))) * u w s else 0)
          + ∑ w : Fin 256, ((if w.val < r.val then 0 - (max (X w) 0 + Ideal.log (1 + Ideal.exp (0 - FloatOps.absf (F := Ideal) (φ := .f32) (X w)))) else 0)
              - (if w.val < r.val then 0 - (max (X w) 0 + Ideal.log (1 + Ideal.exp (0 - FloatOps.absf (F := Ideal) (φ := .f32) (X w)))) else 0)) * u w s) + C) * V s else 0)
      = ∑ m ∈ Finset.Ico n 4096, ((wt (n + r) z m : ℝ) : EReal) * v m := by
  rw [← block_cut (fun m => ((wt (n + r) z m : ℝ) : EReal) * v m) n hn, hA,
    wt_tail (n + r) (n + 256) z v (by have := r.isLt; omega)]
  congr 1
  refine Finset.sum_congr rfl fun s _ => ?_
  have hsp : ∀ w, max (X w) 0 + Ideal.log (1 + Ideal.exp (0 - FloatOps.absf (F := Ideal) (φ := .f32) (X w))) = ((sp (z (n + w.val)) : ℝ) : EReal) :=
    fun w => sp_of _ _ (hX w)
  have hk : ∀ w : Fin 256, (if w.val < r.val then (0 : EReal) - ((sp (z (n + w.val)) : ℝ) : EReal) else 0) = ((keep (n + r) z (n + w) : ℝ) : EReal) := fun w => by
    rw [keep]
    by_cases h : w.val < r.val
    · rw [if_pos h, if_pos (by omega), zero_sub, EReal.coe_neg]
    · rw [if_neg h, if_neg (by omega), EReal.coe_zero]
  have hk' : ∀ w : Fin 256, (if w.val < r.val then ((0 : EReal) - ((sp (z (n + w.val)) : ℝ) : EReal)) * u w s else 0) = ((keep (n + r) z (n + w) : ℝ) : EReal) * u w s := fun w => by
    rw [← hk w]
    by_cases h : w.val < r.val
    · rw [if_pos h, if_pos h]
    · rw [if_neg h, if_neg h, zero_mul]
  simp only [hsp, hk, hk']
  by_cases h : s.val < r.val
  · rw [if_pos h, hX, hV]
    congr 1
    refine wt_block (n + r) n z s hn (by omega) (fun w => u w s) (fun w => hu w s) _ (fun _ => rfl) C ?_
    rw [hC, keep_tail (n + r) (n + 256) z (by have := r.isLt; omega), EReal.coe_zero]
  · rw [if_neg h, wt, if_neg (by omega), EReal.coe_zero, zero_mul]

/-- What the diagonal block takes off the stick. -/
theorem carry_diag (n : ℕ) (r : Fin 256) (z : ℕ → ℝ) (hn : n + 256 ≤ 4096)
    (X : Fin 256 → EReal) (hX : ∀ s : Fin 256, X s = ((z (n + s) : ℝ) : EReal))
    (C : EReal) (hC : C = 0) :
    C + ∑ s : Fin 256, (if s.val < r.val then 0 - (max (X s) 0 + Ideal.log (1 + Ideal.exp (0 - FloatOps.absf (F := Ideal) (φ := .f32) (X s)))) else 0)
      = ((∑ m ∈ Finset.Ico n 4096, keep (n + r) z m : ℝ) : EReal) := by
  rw [← block_cut (keep (n + r) z) n hn, hC, EReal.coe_add, ← coe_sum Finset.univ,
    keep_tail (n + r) (n + 256) z (by have := r.isLt; omega), EReal.coe_zero]
  congr 1
  refine Finset.sum_congr rfl fun s _ => ?_
  rw [sp_of _ _ (hX s), keep]
  by_cases h : s.val < r.val
  · rw [if_pos h, if_pos (by omega), zero_sub, EReal.coe_neg]
  · rw [if_neg h, if_neg (by omega), EReal.coe_zero]

/-! ## The stored values -/

section Pay

variable (q : FVec Ideal S256x128 .bf16) (kb vb : Vec Ideal S1x256x128 .bf16) (u : Vec Ideal S256x256 .bf16)
  (C : Vec Ideal S1x256x1 .f32) (A : Vec Ideal S1x256x128 .f32) (n : ℕ) (hn : n + 256 ≤ 4096)
  (z : Fin 256 → ℕ → ℝ) (v : Fin 128 → ℕ → EReal)
  (hz : ∀ r s : Fin 256, ∑ l : Fin 128, q (ix2 r l) * kb (ix3 0 s l) = ((z r (n + s) : ℝ) : EReal))
  (hu : ∀ w s : Fin 256, u (ix2 w s) = if s.val < w.val then 1 else 0)
  (hv : ∀ (s : Fin 256) (l : Fin 128), vb (ix3 0 s l) = v l (n + s))

include hn hz hu hv

section Full

variable (t : Fin 256 → ℕ) (ht : ∀ r, n + 256 ≤ t r)
  (hA : ∀ (r : Fin 256) (l : Fin 128), A (ix3 0 r l) = ∑ m ∈ Finset.Ico (n + 256) 4096, ((wt (t r) (z r) m : ℝ) : EReal) * v l m)
  (hC : ∀ r : Fin 256, C (ix3 0 r 0) = ((∑ m ∈ Finset.Ico (n + 256) 4096, keep (t r) (z r) m : ℝ) : EReal))

include ht hA hC

set_option maxHeartbeats 1600000 in
theorem trip_acc0 (r : Fin 256) (l : Fin 128) : k0_pay16 (k0_pay9 vb) (k0_pay15 q kb u C) A (ix3 0 r l)
    = ∑ m ∈ Finset.Ico n 4096, ((wt (t r) (z r) m : ℝ) : EReal) * v l m := by
  pointwise [k0_pay16, k0_pay9, k0_pay15, k0_pay8, k0_pay10, k0_pay11, k0_pay12, k0_pay13, k0_pay14]
  exact acc_full (t r) n (z r) (v l) hn (ht r) (fun s => ∑ x, q (ix2 r x) * kb (ix3 0 s x)) (hz r) (fun w s => u (ix2 w s)) hu
    (fun s => vb (ix3 0 s l)) (fun s => hv s l) _ _ (hA r l) (hC r)

set_option maxHeartbeats 1600000 in
theorem trip_acc1 (r : Fin 256) (l : Fin 128) :
    k0_pay3 (k0_pay9 vb) (k0_pay22 q (k0_pay8 kb) (k0_pay10 u)) (k0_pay23 C) A (ix3 0 r l)
    = ∑ m ∈ Finset.Ico n 4096, ((wt (t r) (z r) m : ℝ) : EReal) * v l m := by
  pointwise [k0_pay3, k0_pay9, k0_pay22, k0_pay23, k0_pay8, k0_pay10, k0_pay18, k0_pay19, k0_pay20, k0_pay21]
  exact acc_full (t r) n (z r) (v l) hn (ht r) (fun s => ∑ x, q (ix2 r x) * kb (ix3 0 s x)) (hz r) (fun w s => u (ix2 w s)) hu
    (fun s => vb (ix3 0 s l)) (fun s => hv s l) _ _ (hA r l) (hC r)

omit hu hv hA in
set_option maxHeartbeats 1600000 in
theorem trip_carry0 (r : Fin 256) : k0_pay17 (k0_pay13 q kb) (k0_pay14 C) (ix3 0 r 0)
    = ((∑ m ∈ Finset.Ico n 4096, keep (t r) (z r) m : ℝ) : EReal) := by
  pointwise [k0_pay17, k0_pay8, k0_pay11, k0_pay12, k0_pay13, k0_pay14]
  exact carry_full (t r) n (z r) hn (ht r) (fun s => ∑ x, q (ix2 r x) * kb (ix3 0 s x)) (hz r) _ (hC r)

omit hu hv hA in
set_option maxHeartbeats 1600000 in
theorem trip_carry1 (r : Fin 256) : k0_pay4 (k0_pay20 q (k0_pay8 kb)) (k0_pay21 C) (ix3 0 r 0)
    = ((∑ m ∈ Finset.Ico n 4096, keep (t r) (z r) m : ℝ) : EReal) := by
  pointwise [k0_pay4, k0_pay8, k0_pay18, k0_pay19, k0_pay20, k0_pay21]
  exact carry_full (t r) n (z r) hn (ht r) (fun s => ∑ x, q (ix2 r x) * kb (ix3 0 s x)) (hz r) _ (hC r)

end Full

section Diag

variable (hA : ∀ (r : Fin 256) (l : Fin 128), A (ix3 0 r l) = 0) (hC : ∀ r : Fin 256, C (ix3 0 r 0) = 0)

include hA hC

set_option maxHeartbeats 1600000 in
theorem diag_acc0 (r : Fin 256) (l : Fin 128) : k0_pay55 q k0_pay47 (k0_pay48 kb) (k0_pay49 vb) u C A (ix3 0 r l)
    = ∑ m ∈ Finset.Ico n 4096, ((wt (n + r) (z r) m : ℝ) : EReal) * v l m := by
  pointwise [k0_pay55, k0_pay47, k0_pay48, k0_pay49, k0_pay50, k0_pay51, k0_pay52, k0_pay53, k0_pay54]
  simp (disch := word_cmp_side) only [hlo_ix]
  exact acc_diag n r (z r) (v l) hn (fun s => ∑ x, q (ix2 r x) * kb (ix3 0 s x)) (hz r) (fun w s => u (ix2 w s)) hu
    (fun s => vb (ix3 0 s l)) (fun s => hv s l) _ _ (hA r l) (hC r)

set_option maxHeartbeats 1600000 in
theorem diag_acc1 (r : Fin 256) (l : Fin 128) :
    k0_pay1 (k0_pay49 vb) (k0_pay61 A) (k0_pay62 q k0_pay47 (k0_pay48 kb) (k0_pay50 u) C) (ix3 0 r l)
    = ∑ m ∈ Finset.Ico n 4096, ((wt (n + r) (z r) m : ℝ) : EReal) * v l m := by
  pointwise [k0_pay1, k0_pay61, k0_pay62, k0_pay47, k0_pay48, k0_pay49, k0_pay50, k0_pay57, k0_pay58, k0_pay59, k0_pay60]
  simp (disch := word_cmp_side) only [hlo_ix]
  exact acc_diag n r (z r) (v l) hn (fun s => ∑ x, q (ix2 r x) * kb (ix3 0 s x)) (hz r) (fun w s => u (ix2 w s)) hu
    (fun s => vb (ix3 0 s l)) (fun s => hv s l) _ _ (hA r l) (hC r)

omit hu hv hA in
set_option maxHeartbeats 1600000 in
theorem diag_carry0 (r : Fin 256) : k0_pay56 (k0_pay53 q k0_pay47 (k0_pay48 kb)) (k0_pay54 C) (ix3 0 r 0)
    = ((∑ m ∈ Finset.Ico n 4096, keep (n + r) (z r) m : ℝ) : EReal) := by
  pointwise [k0_pay56, k0_pay47, k0_pay48, k0_pay51, k0_pay52, k0_pay53, k0_pay54]
  simp (disch := word_cmp_side) only [hlo_ix]
  exact carry_diag n r (z r) hn (fun s => ∑ x, q (ix2 r x) * kb (ix3 0 s x)) (hz r) _ (hC r)

omit hu hv hA in
set_option maxHeartbeats 1600000 in
theorem diag_carry1 (r : Fin 256) : k0_pay2 (k0_pay59 q k0_pay47 (k0_pay48 kb)) (k0_pay60 C) (ix3 0 r 0)
    = ((∑ m ∈ Finset.Ico n 4096, keep (n + r) (z r) m : ℝ) : EReal) := by
  pointwise [k0_pay2, k0_pay47, k0_pay48, k0_pay57, k0_pay58, k0_pay59, k0_pay60]
  simp (disch := word_cmp_side) only [hlo_ix]
  exact carry_diag n r (z r) hn (fun s => ∑ x, q (ix2 r x) * kb (ix3 0 s x)) (hz r) _ (hC r)

end Diag

end Pay

end Cert.KernelIdeal.Proj

end
-- ==== Proof.SbTrip.lean ====
module

public import proofs.«01_k».proof.Proof.SbBlock

@[expose] public section

set_option maxRecDepth 16384

noncomputable section

namespace Cert.KernelIdeal.Proj

open Cert.KernelIdeal Cert.KernelIdeal.Gen Idealize.ShloMosaic Idealize.ShloMosaic.TcCoe Idealize.SL.Sem
open Cert.Stick

/-! ## The loop's bounds and the block a trip reads -/

theorem loop_trips (i : grid0.Coords) : (k0_t1_loop i).trips = (i 2).val := by
  have h : ∀ j : Fin 16, Scf.trips 0#32 (Scalar.addi 0#32 (Scalar.muli (Scalar.divsi (Scalar.subi (BitVec.ofNat 32 j.val) 0#32) 1#32) 1#32)) 1#32 = j.val := by
    decide +kernel
  exact h (i 2)

theorem rest_trips (i : grid0.Coords) : (k0_t2_loop i).trips = 0 := by
  have h : ∀ j : Fin 16, Scf.trips (Scalar.addi 0#32 (Scalar.muli (Scalar.divsi (Scalar.subi (BitVec.ofNat 32 j.val) 0#32) 1#32) 1#32))
      (Scalar.addi 0#32 (Scalar.subi (BitVec.ofNat 32 j.val) 0#32)) 1#32 = 0 := by
    decide +kernel
  exact h (i 2)

theorem off_diag (i : grid0.Coords) : k0_off1 i = ![0, 256 * (i 2).val, 0] := by
  have h : ∀ j : Fin 16, (Scalar.indexCast (Scalar.muli (BitVec.ofNat 32 j.val) 256#32) : Index).toNat = 256 * j.val := by
    decide +kernel
  unfold k0_off1
  dsimp only
  rw [h (i 2)]

theorem off_trip (i : grid0.Coords) (k : Fin (k0_t1_loop i).trips) : k0_off2 i k = ![0, 256 * ((i 2).val - 1 - k.val), 0] := by
  have h : ∀ j k : Fin 16, k.val < j.val → (Scalar.indexCast (Scalar.muli (Scalar.subi (Scalar.subi (BitVec.ofNat 32 j.val) 1#32) (Scf.iv 0#32 1#32 k.val)) 256#32) : Index).toNat
      = 256 * (j.val - 1 - k.val) := by
    decide +kernel
  have hk : k.val < (i 2).val := lt_of_lt_of_eq k.isLt (loop_trips i)
  have hj : (i 2).val < 16 := (i 2).isLt
  unfold k0_off2
  dsimp only
  rw [h (i 2) ⟨k.val, by omega⟩ hk]

section Loop

variable (𝒱 : Variants) (c : Dev nD) (bd : Option 𝒱.V) (i : grid0.Coords) (arg3 : Memref sig .tc .vmem S1x256x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S256x256 .bf16) (harg6 : arg6.IsWhole) (arg7 : Memref sig .tc .vmem S1x256x128 .bf16) (harg7 : arg7.IsWhole)
  (arg8 : Memref sig .tc .vmem S2x256x128 .f32) (harg8 : arg8.IsWhole) (arg9 : Memref sig .tc .vmem S2x256x1 .f32) (harg9 : arg9.IsWhole)
  (arg2 : BitVec 32) (v10 v13 : FVec Ideal S256x128 .bf16)
  (X4 : BufTy.Contents (Elt Ideal) arg4.view.ty) (X5 : BufTy.Contents (Elt Ideal) arg5.view.ty) (X6 : BufTy.Contents (Elt Ideal) arg6.view.ty)

/-- The block of the keys (or of the values) that a trip loads. -/
abbrev blkAt (k : Fin (k0_t1_loop i).trips) (a : Memref sig .tc .vmem S1x4096x128 .bf16) (X : BufTy.Contents (Elt Ideal) a.view.ty) :
    Vec Ideal S1x256x128 .bf16 :=
  View.readAt (Elt Ideal) a.view (Rect.unit (s := S1x4096x128) (k0_off2 i k) S1x256x128.size (k0_off2_inb i k)).toLoadRect X

abbrev uAt : Vec Ideal S256x256 .bf16 :=
  View.readAt (Elt Ideal) arg6.view (Rect.unit (s := S256x256) ![0, 0] S256x256.size inb_S256x256_S256x256_0_0).toLoadRect X6

abbrev row8 (f8 : BufTy.Contents (Elt Ideal) arg8.view.ty) : Vec Ideal S1x256x128 .f32 :=
  View.readAt (Elt Ideal) arg8.view (Rect.unit (s := S2x256x128) ![0, 0, 0] S1x256x128.size inb_S2x256x128_S1x256x128_0_0_0).toLoadRect f8

abbrev row8' (f8 : BufTy.Contents (Elt Ideal) arg8.view.ty) : Vec Ideal S1x256x128 .f32 :=
  View.readAt (Elt Ideal) arg8.view (Rect.unit (s := S2x256x128) ![1, 0, 0] S1x256x128.size inb_S2x256x128_S1x256x128_1_0_0).toLoadRect f8

abbrev row9 (f9 : BufTy.Contents (Elt Ideal) arg9.view.ty) : Vec Ideal S1x256x1 .f32 :=
  View.readAt (Elt Ideal) arg9.view (Rect.unit (s := S2x256x1) ![0, 0, 0] S1x256x1.size inb_S2x256x1_S1x256x1_0_0_0).toLoadRect f9

abbrev row9' (f9 : BufTy.Contents (Elt Ideal) arg9.view.ty) : Vec Ideal S1x256x1 .f32 :=
  View.readAt (Elt Ideal) arg9.view (Rect.unit (s := S2x256x1) ![1, 0, 0] S1x256x1.size inb_S2x256x1_S1x256x1_1_0_0).toLoadRect f9

/-- What one trip stores: a row per head of the result's sums, and one of the carried sums. -/
theorem trip_stores (k : Fin (k0_t1_loop i).trips) (acc : BitVec 32) (f8 : BufTy.Contents (Elt Ideal) arg8.view.ty) (f9 : BufTy.Contents (Elt Ideal) arg9.view.ty) :
    tripL_k0_t1 (F := Ideal) 𝒱 c bd i arg3 harg3 arg4 harg4 arg5 harg5 arg6 harg6 arg7 harg7 arg8 harg8 arg9 harg9 arg2 v10 v13 X4 X5 X6 k acc f8 f9
      = ([⟨Rect.unit (s := S2x256x128) ![1, 0, 0] S1x256x128.size inb_S2x256x128_S1x256x128_1_0_0,
            k0_pay3 (k0_pay9 (blkAt i k arg5 X5)) (k0_pay22 v13 (k0_pay8 (blkAt i k arg4 X4)) (k0_pay10 (uAt arg6 X6))) (k0_pay23 (row9' arg9 f9)) (row8' arg8 f8)⟩,
          ⟨Rect.unit (s := S2x256x128) ![0, 0, 0] S1x256x128.size inb_S2x256x128_S1x256x128_0_0_0,
            k0_pay16 (k0_pay9 (blkAt i k arg5 X5)) (k0_pay15 v10 (blkAt i k arg4 X4) (uAt arg6 X6) (row9 arg9 f9)) (row8 arg8 f8)⟩],
         [⟨Rect.unit (s := S2x256x1) ![1, 0, 0] S1x256x1.size inb_S2x256x1_S1x256x1_1_0_0,
            k0_pay4 (k0_pay20 v13 (k0_pay8 (blkAt i k arg4 X4))) (k0_pay21 (row9' arg9 f9))⟩,
          ⟨Rect.unit (s := S2x256x1) ![0, 0, 0] S1x256x1.size inb_S2x256x1_S1x256x1_0_0_0,
            k0_pay17 (k0_pay13 v10 (blkAt i k arg4 X4)) (k0_pay14 (row9 arg9 f9))⟩]) := by
  unfold tripL_k0_t1 trip_k0_t1
  rfl

/-! ## Reading the two rows of a scratch buffer -/

theorem read8_one (f8 : BufTy.Contents (Elt Ideal) arg8.view.ty) (w1 : Vec Ideal S1x256x128 .f32) (L : List (View.Piece (Elt Ideal) S2x256x128 .f32)) (r : Fin 256) (l : Fin 128) :
    arg8.view.read (Elt Ideal) (arg8.view.writes (Elt Ideal) f8
        (⟨Rect.unit (s := S2x256x128) ![1, 0, 0] S1x256x128.size inb_S2x256x128_S1x256x128_1_0_0, w1⟩ :: L)) (ix3 (1 : Fin 2) r l)
      = w1 (ix3 0 r l) :=
  View.read_writes_cons_unit_of_mem arg8.view f8 inb_S2x256x128_S1x256x128_1_0_0 w1 _ (ix3 (1 : Fin 2) r l) (ix3 0 r l) rfl fun a => match a with
    | ⟨0, _⟩ => rfl
    | ⟨1, _⟩ => (Nat.zero_add _).symm
    | ⟨2, _⟩ => (Nat.zero_add _).symm

theorem read8_zero (f8 : BufTy.Contents (Elt Ideal) arg8.view.ty) (w1 w0 : Vec Ideal S1x256x128 .f32) (L : List (View.Piece (Elt Ideal) S2x256x128 .f32)) (r : Fin 256) (l : Fin 128) :
    arg8.view.read (Elt Ideal) (arg8.view.writes (Elt Ideal) f8
        (⟨Rect.unit (s := S2x256x128) ![1, 0, 0] S1x256x128.size inb_S2x256x128_S1x256x128_1_0_0, w1⟩ ::
          ⟨Rect.unit (s := S2x256x128) ![0, 0, 0] S1x256x128.size inb_S2x256x128_S1x256x128_0_0_0, w0⟩ :: L)) (ix3 (0 : Fin 2) r l)
      = w0 (ix3 0 r l) :=
  (View.read_writes_cons_unit_of_not_mem arg8.view f8 inb_S2x256x128_S1x256x128_1_0_0 w1 _ (ix3 (0 : Fin 2) r l) rfl 0 (.inl Nat.zero_lt_one)).trans
  (View.read_writes_cons_unit_of_mem arg8.view f8 inb_S2x256x128_S1x256x128_0_0_0 w0 _ (ix3 (0 : Fin 2) r l) (ix3 0 r l) rfl fun a => match a with
    | ⟨0, _⟩ => rfl
    | ⟨1, _⟩ => (Nat.zero_add _).symm
    | ⟨2, _⟩ => (Nat.zero_add _).symm)

theorem read9_one (f9 : BufTy.Contents (Elt Ideal) arg9.view.ty) (w1 : Vec Ideal S1x256x1 .f32) (L : List (View.Piece (Elt Ideal) S2x256x1 .f32)) (r : Fin 256) :
    arg9.view.read (Elt Ideal) (arg9.view.writes (Elt Ideal) f9
        (⟨Rect.unit (s := S2x256x1) ![1, 0, 0] S1x256x1.size inb_S2x256x1_S1x256x1_1_0_0, w1⟩ :: L)) (ix3 (1 : Fin 2) r 0)
      = w1 (ix3 0 r 0) :=
  View.read_writes_cons_unit_of_mem arg9.view f9 inb_S2x256x1_S1x256x1_1_0_0 w1 _ (ix3 (1 : Fin 2) r 0) (ix3 0 r 0) rfl fun a => match a with
    | ⟨0, _⟩ => rfl
    | ⟨1, _⟩ => (Nat.zero_add _).symm
    | ⟨2, _⟩ => (Nat.zero_add _).symm

theorem read9_zero (f9 : BufTy.Contents (Elt Ideal) arg9.view.ty) (w1 w0 : Vec Ideal S1x256x1 .f32) (L : List (View.Piece (Elt Ideal) S2x256x1 .f32)) (r : Fin 256) :
    arg9.view.read (Elt Ideal) (arg9.view.writes (Elt Ideal) f9
        (⟨Rect.unit (s := S2x256x1) ![1, 0, 0] S1x256x1.size inb_S2x256x1_S1x256x1_1_0_0, w1⟩ ::
          ⟨Rect.unit (s := S2x256x1) ![0, 0, 0] S1x256x1.size inb_S2x256x1_S1x256x1_0_0_0, w0⟩ :: L)) (ix3 (0 : Fin 2) r 0)
      = w0 (ix3 0 r 0) :=
  (View.read_writes_cons_unit_of_not_mem arg9.view f9 inb_S2x256x1_S1x256x1_1_0_0 w1 _ (ix3 (0 : Fin 2) r 0) rfl 0 (.inl Nat.zero_lt_one)).trans
  (View.read_writes_cons_unit_of_mem arg9.view f9 inb_S2x256x1_S1x256x1_0_0_0 w0 _ (ix3 (0 : Fin 2) r 0) (ix3 0 r 0) rfl fun a => match a with
    | ⟨0, _⟩ => rfl
    | ⟨1, _⟩ => (Nat.zero_add _).symm
    | ⟨2, _⟩ => (Nat.zero_add _).symm)

theorem row8_at (f8 : BufTy.Contents (Elt Ideal) arg8.view.ty) (r : Fin 256) (l : Fin 128) :
    row8 arg8 f8 (ix3 0 r l) = arg8.view.read (Elt Ideal) f8 (ix3 (0 : Fin 2) r l) :=
  congrArg (arg8.view.read (Elt Ideal) f8) (funext fun a => match a with
    | ⟨0, _⟩ => Fin.ext rfl
    | ⟨1, _⟩ => Fin.ext (show 0 + 1 * r.val = r.val by omega)
    | ⟨2, _⟩ => Fin.ext (show 0 + 1 * l.val = l.val by omega))

theorem row8'_at (f8 : BufTy.Contents (Elt Ideal) arg8.view.ty) (r : Fin 256) (l : Fin 128) :
    row8' arg8 f8 (ix3 0 r l) = arg8.view.read (Elt Ideal) f8 (ix3 (1 : Fin 2) r l) :=
  congrArg (arg8.view.read (Elt Ideal) f8) (funext fun a => match a with
    | ⟨0, _⟩ => Fin.ext rfl
    | ⟨1, _⟩ => Fin.ext (show 0 + 1 * r.val = r.val by omega)
    | ⟨2, _⟩ => Fin.ext (show 0 + 1 * l.val = l.val by omega))

theorem row9_at (f9 : BufTy.Contents (Elt Ideal) arg9.view.ty) (r : Fin 256) :
    row9 arg9 f9 (ix3 0 r 0) = arg9.view.read (Elt Ideal) f9 (ix3 (0 : Fin 2) r 0) :=
  congrArg (arg9.view.read (Elt Ideal) f9) (funext fun a => match a with
    | ⟨0, _⟩ => Fin.ext rfl
    | ⟨1, _⟩ => Fin.ext (show 0 + 1 * r.val = r.val by omega)
    | ⟨2, _⟩ => Fin.ext rfl)

theorem row9'_at (f9 : BufTy.Contents (Elt Ideal) arg9.view.ty) (r : Fin 256) :
    row9' arg9 f9 (ix3 0 r 0) = arg9.view.read (Elt Ideal) f9 (ix3 (1 : Fin 2) r 0) :=
  congrArg (arg9.view.read (Elt Ideal) f9) (funext fun a => match a with
    | ⟨0, _⟩ => Fin.ext rfl
    | ⟨1, _⟩ => Fin.ext (show 0 + 1 * r.val = r.val by omega)
    | ⟨2, _⟩ => Fin.ext rfl)

theorem uAt_at (w s : Fin 256) : uAt arg6 X6 (ix2 w s) = arg6.view.read (Elt Ideal) X6 (ix2 w s) :=
  congrArg (arg6.view.read (Elt Ideal) X6) (funext fun a => match a with
    | ⟨0, _⟩ => Fin.ext (show 0 + 1 * w.val = w.val by omega)
    | ⟨1, _⟩ => Fin.ext (show 0 + 1 * s.val = s.val by omega))

theorem trip_row (k : Fin (k0_t1_loop i).trips) (s : Fin 256) : 256 * ((i 2).val - 1 - k.val) + s.val < 4096 := by
  have hk : k.val < (i 2).val := lt_of_lt_of_eq k.isLt (loop_trips i)
  have hj : (i 2).val < 16 := (i 2).isLt
  omega

theorem blkAt_at (k : Fin (k0_t1_loop i).trips) (a : Memref sig .tc .vmem S1x4096x128 .bf16) (X : BufTy.Contents (Elt Ideal) a.view.ty) (s : Fin 256) (l : Fin 128) :
    blkAt i k a X (ix3 0 s l) = a.view.read (Elt Ideal) X (ix3 0 (⟨256 * ((i 2).val - 1 - k.val) + s.val, trip_row i k s⟩ : Fin 4096) l) :=
  congrArg (a.view.read (Elt Ideal) X) (funext fun d => match d with
    | ⟨0, _⟩ => Fin.ext ((Nat.add_comm _ _).trans (congrFun (off_trip i k) 0))
    | ⟨1, _⟩ => Fin.ext (show k0_off2 i k 1 + 1 * s.val = _ by rw [off_trip i k, one_mul]; rfl)
    | ⟨2, _⟩ => Fin.ext (show k0_off2 i k 2 + 1 * l.val = _ by rw [off_trip i k, one_mul]; exact Nat.zero_add _))

/-! ## The loop over the blocks behind the diagonal one -/

variable (G8 : BufTy.Contents (Elt Ideal) arg8.view.ty) (G9 : BufTy.Contents (Elt Ideal) arg9.view.ty) (init : BitVec 32)
  (z0 z1 : Fin 256 → ℕ → ℝ) (v : Fin 128 → ℕ → EReal)
  (hz0 : ∀ (r : Fin 256) (s : Fin 4096), ∑ l : Fin 128, v10 (ix2 r l) * arg4.view.read (Elt Ideal) X4 (ix3 0 s l) = ((z0 r s : ℝ) : EReal))
  (hz1 : ∀ (r : Fin 256) (s : Fin 4096), ∑ l : Fin 128, v13 (ix2 r l) * arg4.view.read (Elt Ideal) X4 (ix3 0 s l) = ((z1 r s : ℝ) : EReal))
  (hv : ∀ (s : Fin 4096) (l : Fin 128), arg5.view.read (Elt Ideal) X5 (ix3 0 s l) = v l s)
  (hu : ∀ w s : Fin 256, arg6.view.read (Elt Ideal) X6 (ix2 w s) = if s.val < w.val then 1 else 0)

/-- What the scratch buffers hold once the keys from `n` on are taken, for queries at `t`. -/
structure Taken (t : Fin 256 → ℕ) (n : ℕ) (f8 : BufTy.Contents (Elt Ideal) arg8.view.ty) (f9 : BufTy.Contents (Elt Ideal) arg9.view.ty) : Prop where
  acc0 : ∀ (r : Fin 256) (l : Fin 128), arg8.view.read (Elt Ideal) f8 (ix3 (0 : Fin 2) r l) = ∑ m ∈ Finset.Ico n 4096, ((wt (t r) (z0 r) m : ℝ) : EReal) * v l m
  acc1 : ∀ (r : Fin 256) (l : Fin 128), arg8.view.read (Elt Ideal) f8 (ix3 (1 : Fin 2) r l) = ∑ m ∈ Finset.Ico n 4096, ((wt (t r) (z1 r) m : ℝ) : EReal) * v l m
  sum0 : ∀ r : Fin 256, arg9.view.read (Elt Ideal) f9 (ix3 (0 : Fin 2) r 0) = ((∑ m ∈ Finset.Ico n 4096, keep (t r) (z0 r) m : ℝ) : EReal)
  sum1 : ∀ r : Fin 256, arg9.view.read (Elt Ideal) f9 (ix3 (1 : Fin 2) r 0) = ((∑ m ∈ Finset.Ico n 4096, keep (t r) (z1 r) m : ℝ) : EReal)

include hz0 hz1 hv hu

/-- One trip takes the block of keys next to those already taken. -/
theorem trip_taken (k : Fin (k0_t1_loop i).trips) (acc : BitVec 32) (f8 : BufTy.Contents (Elt Ideal) arg8.view.ty) (f9 : BufTy.Contents (Elt Ideal) arg9.view.ty)
    (h : Taken arg8 arg9 z0 z1 v (fun r => 256 * (i 2).val + r.val) (256 * ((i 2).val - 1 - k.val) + 256) f8 f9) :
    Taken arg8 arg9 z0 z1 v (fun r => 256 * (i 2).val + r.val) (256 * ((i 2).val - 1 - k.val))
      (arg8.view.writes (Elt Ideal) f8 (tripL_k0_t1 (F := Ideal) 𝒱 c bd i arg3 harg3 arg4 harg4 arg5 harg5 arg6 harg6 arg7 harg7 arg8 harg8 arg9 harg9 arg2 v10 v13 X4 X5 X6 k acc f8 f9).1)
      (arg9.view.writes (Elt Ideal) f9 (tripL_k0_t1 (F := Ideal) 𝒱 c bd i arg3 harg3 arg4 harg4 arg5 harg5 arg6 harg6 arg7 harg7 arg8 harg8 arg9 harg9 arg2 v10 v13 X4 X5 X6 k acc f8 f9).2) := by
  have hk : k.val < (i 2).val := lt_of_lt_of_eq k.isLt (loop_trips i)
  have hj : (i 2).val < 16 := (i 2).isLt
  have hn : 256 * ((i 2).val - 1 - k.val) + 256 ≤ 4096 := by omega
  have ht : ∀ r : Fin 256, 256 * ((i 2).val - 1 - k.val) + 256 ≤ 256 * (i 2).val + r.val := fun r => by omega
  have z0' : ∀ r s : Fin 256, ∑ l : Fin 128, v10 (ix2 r l) * blkAt i k arg4 X4 (ix3 0 s l) = ((z0 r (256 * ((i 2).val - 1 - k.val) + s) : ℝ) : EReal) := fun r s =>
    (Finset.sum_congr rfl fun l _ => by rw [blkAt_at]).trans (hz0 r ⟨_, trip_row i k s⟩)
  have z1' : ∀ r s : Fin 256, ∑ l : Fin 128, v13 (ix2 r l) * blkAt i k arg4 X4 (ix3 0 s l) = ((z1 r (256 * ((i 2).val - 1 - k.val) + s) : ℝ) : EReal) := fun r s =>
    (Finset.sum_congr rfl fun l _ => by rw [blkAt_at]).trans (hz1 r ⟨_, trip_row i k s⟩)
  have v' : ∀ (s : Fin 256) (l : Fin 128), blkAt i k arg5 X5 (ix3 0 s l) = v l (256 * ((i 2).val - 1 - k.val) + s) := fun s l =>
    (blkAt_at i k arg5 X5 s l).trans (hv ⟨_, trip_row i k s⟩ l)
  have u' : ∀ w s : Fin 256, uAt arg6 X6 (ix2 w s) = if s.val < w.val then 1 else 0 := fun w s => (uAt_at arg6 X6 w s).trans (hu w s)
  rw [trip_stores]
  constructor
  · intro r l
    refine (read8_zero arg8 f8 _ _ [] r l).trans ?_
    exact trip_acc0 v10 (blkAt i k arg4 X4) (blkAt i k arg5 X5) (uAt arg6 X6) (row9 arg9 f9) (row8 arg8 f8) _ hn z0 v z0' u' v' _ ht
      (fun r l => (row8_at arg8 f8 r l).trans (h.acc0 r l)) (fun r => (row9_at arg9 f9 r).trans (h.sum0 r)) r l
  · intro r l
    refine (read8_one arg8 f8 _ _ r l).trans ?_
    exact trip_acc1 v13 (blkAt i k arg4 X4) (blkAt i k arg5 X5) (uAt arg6 X6) (row9' arg9 f9) (row8' arg8 f8) _ hn z1 v z1' u' v' _ ht
      (fun r l => (row8'_at arg8 f8 r l).trans (h.acc1 r l)) (fun r => (row9'_at arg9 f9 r).trans (h.sum1 r)) r l
  · intro r
    refine (read9_zero arg9 f9 _ _ [] r).trans ?_
    exact trip_carry0 v10 (blkAt i k arg4 X4) (row9 arg9 f9) _ hn z0 z0' _ ht (fun r => (row9_at arg9 f9 r).trans (h.sum0 r)) r
  · intro r
    refine (read9_one arg9 f9 _ _ r).trans ?_
    exact trip_carry1 v13 (blkAt i k arg4 X4) (row9' arg9 f9) _ hn z1 z1' _ ht (fun r => (row9'_at arg9 f9 r).trans (h.sum1 r)) r

/-- Before trip `k` the keys from block `i₂ - k` on are taken. -/
theorem loop_taken (h0 : Taken arg8 arg9 z0 z1 v (fun r => 256 * (i 2).val + r.val) (256 * (i 2).val) G8 G9) (k : ℕ) (hk : k ≤ (i 2).val) :
    Taken arg8 arg9 z0 z1 v (fun r => 256 * (i 2).val + r.val) (256 * ((i 2).val - k))
      (arg8.view.writes (Elt Ideal) G8 (st_k0_t1 (F := Ideal) 𝒱 c bd i arg3 harg3 arg4 harg4 arg5 harg5 arg6 harg6 arg7 harg7 arg8 harg8 arg9 harg9 arg2 v10 v13 X4 X5 X6 G8 G9 init k).2.1)
      (arg9.view.writes (Elt Ideal) G9 (st_k0_t1 (F := Ideal) 𝒱 c bd i arg3 harg3 arg4 harg4 arg5 harg5 arg6 harg6 arg7 harg7 arg8 harg8 arg9 harg9 arg2 v10 v13 X4 X5 X6 G8 G9 init k).2.2) := by
  induction k with
  | zero => exact h0
  | succ k ih =>
    have hk' : k < (k0_t1_loop i).trips := lt_of_lt_of_eq (by omega) (loop_trips i).symm
    rw [st_k0_t1_succ 𝒱 c bd i arg3 harg3 arg4 harg4 arg5 harg5 arg6 harg6 arg7 harg7 arg8 harg8 arg9 harg9 arg2 v10 v13 X4 X5 X6 G8 G9 init ⟨k, hk'⟩]
    dsimp only
    rw [View.writes_append, View.writes_append, show (i 2).val - (k + 1) = (i 2).val - 1 - k by omega]
    refine trip_taken 𝒱 c bd i arg3 harg3 arg4 harg4 arg5 harg5 arg6 harg6 arg7 harg7 arg8 harg8 arg9 harg9 arg2 v10 v13 X4 X5 X6 z0 z1 v hz0 hz1 hv hu ⟨k, hk'⟩ _ _ _ ?_
    have e : 256 * ((i 2).val - 1 - k) + 256 = 256 * ((i 2).val - k) := by omega
    show Taken arg8 arg9 z0 z1 v _ (256 * ((i 2).val - 1 - k) + 256) _ _
    rw [e]
    exact ih (by omega)

omit hz0 hz1 hv hu in
/-- The second loop makes no trip. -/
theorem rest_none (v129 : BitVec 32) (init' : BitVec 32) :
    (st_k0_t2 (F := Ideal) 𝒱 c bd i arg3 harg3 arg4 harg4 arg5 harg5 arg6 harg6 arg7 harg7 arg8 harg8 arg9 harg9 arg2 v10 v13 v129 X4 X5 X6 G8 G9 init' (k0_t2_loop i).trips).2.1 = [] := by
  rw [rest_trips]
  rfl

end Loop

end Cert.KernelIdeal.Proj

end
-- ==== Proof.SbState.lean ====
module
public import proofs.«01_k».proof.Proof.SbTrip
public import proofs.«01_k».proof.Proof.SbForm

@[expose] public section

set_option maxRecDepth 16384

noncomputable section

namespace Cert.KernelIdeal.Proj
open Cert.KernelIdeal Cert.KernelIdeal.Gen Idealize.ShloMosaic Idealize.ShloMosaic.TcCoe Idealize.SL.Sem
open Cert.Stick

variable (m : (ℓ : Loc nD τ sig) → Buf (Elt Ideal) ℓ)

/-- The blocks of grid point `t`. -/
theorem idx : ∀ t : Fin cfg0.N,
    win0_0.index t = ![t.val / 128, t.val % 16, 48 + t.val / 16 % 8] ∧ win0_1.index t = ![t.val / 128, 0, 56 + t.val / 16 % 8]
      ∧ win0_2.index t = ![t.val / 128, 0, 64 + t.val / 16 % 8] ∧ win0_3.index t = ![0, 0]
      ∧ win0_4.index t = ![t.val / 128, t.val % 16, t.val / 16 % 8] ∧ t.val / 128 < 4 ∧ (grid0.coords t 2).val = t.val % 16 :=
  (by decide +kernel : ∀ t : Fin grid0.N, _)

/-- The layer's in-projection. -/
abbrev X (c : Dev nD) : (⟨S4x4096x11264, .bf16⟩ : BufTy).Contents (Elt Ideal) := m ((c : Thread nD τ).loc main_arg0)

theorem q_blk (c : Dev nD) (t : Fin cfg0.N) (r : Fin 256) (l : Fin 128) :
    iblk m c 0 t (ix3 0 r l) = X m c (ix3 ⟨t.val / 128, (idx t).2.2.2.2.2.1⟩ ⟨t.val % 16 * 256 + r.val, by omega⟩ ⟨6144 + (t.val / 16 % 8 * 128 + l.val), by omega⟩) := by
  blk_point [iblk, V, idx t]

theorem k_blk (c : Dev nD) (t : Fin cfg0.N) (s : Fin 4096) (l : Fin 128) :
    iblk m c 1 t (ix3 0 s l) = X m c (ix3 ⟨t.val / 128, (idx t).2.2.2.2.2.1⟩ s ⟨7168 + (t.val / 16 % 8 * 128 + l.val), by omega⟩) := by
  blk_point [iblk, V, idx t]

theorem v_blk (c : Dev nD) (t : Fin cfg0.N) (s : Fin 4096) (l : Fin 128) :
    iblk m c 2 t (ix3 0 s l) = X m c (ix3 ⟨t.val / 128, (idx t).2.2.2.2.2.1⟩ s ⟨8192 + (t.val / 16 % 8 * 128 + l.val), by omega⟩) := by
  blk_point [iblk, V, idx t]

theorem v3_eq (c : Dev nD) : V m c main_v3 = (uitofp (F := Ideal) .bf16 (cmpi .sgt (iotaInDim S256x256 32 0) (iotaInDim S256x256 32 1)) : FVec Ideal S256x256 .bf16) := by
  rfl

theorem u_blk (c : Dev nD) (t : Fin cfg0.N) (w s : Fin 256) :
    iblk m c 3 t (ix2 w s) = ((if s.val < w.val then 1 else 0 : EReal)) := by
  have e : iblk m c 3 t (ix2 w s) = (uitofp .bf16 (cmpi .sgt (iotaInDim S256x256 32 0) (iotaInDim S256x256 32 1)) : FVec Ideal S256x256 .bf16) (ix2 w s) := by
    rw [← v3_eq m c]
    blk_point [iblk, idx t]
  rw [e]
  pointwise []
  simp (disch := word_cmp_side) only [hlo_ix]
  split_ifs with h
  · rw [decide_eq_true h]; simp; show (((1#1 : BitVec 1).toNat : ℝ) : EReal) = 1; norm_num
  · rw [decide_eq_false h]; simp; show (((0#1 : BitVec 1).toNat : ℝ) : EReal) = 0; norm_num

/-- The diagonal block of the keys or of the values. -/
abbrev diagBlk (i : grid0.Coords) (x : Vec Ideal S1x4096x128 .bf16) : Vec Ideal S1x256x128 .bf16 :=
  View.ld x (Rect.unit (s := S1x4096x128) (k0_off1 i) S1x256x128.size (k0_off1_inb i))

section Diagonal

variable (i : grid0.Coords) (x0 : Vec Ideal S1x256x128 .bf16) (x1 x2 : Vec Ideal S1x4096x128 .bf16) (x3 : Vec Ideal S256x256 .bf16)

abbrev W8 : List (View.Piece (Elt Ideal) S2x256x128 .f32) :=
  [⟨Rect.unit (s := S2x256x128) ![0, 0, 0] S2x256x128.size inb_S2x256x128_S2x256x128_0_0_0, k0_pay45 (F := Ideal)⟩]
abbrev W9 : List (View.Piece (Elt Ideal) S2x256x1 .f32) :=
  [⟨Rect.unit (s := S2x256x1) ![0, 0, 0] S2x256x1.size inb_S2x256x1_S2x256x1_0_0_0, k0_pay46 (F := Ideal)⟩]
abbrev P9 : View.Piece (Elt Ideal) S2x256x1 .f32 :=
  ⟨Rect.unit (s := S2x256x1) ![0, 0, 0] S1x256x1.size inb_S2x256x1_S1x256x1_0_0_0,
    k0_pay56 (k0_pay53 (k0_pay43 x0) k0_pay47 (k0_pay48 (diagBlk i x1))) (k0_pay54 (row9 scM0_1 (scM0_1.view.writes (Elt Ideal) scM0_1.view.junk W9)))⟩
abbrev D9 : List (View.Piece (Elt Ideal) S2x256x1 .f32) :=
  ⟨Rect.unit (s := S2x256x1) ![1, 0, 0] S1x256x1.size inb_S2x256x1_S1x256x1_1_0_0,
    k0_pay2 (k0_pay59 (k0_pay44 x0) k0_pay47 (k0_pay48 (diagBlk i x1))) (k0_pay60 (row9' scM0_1 (scM0_1.view.writes (Elt Ideal) scM0_1.view.junk (P9 i x0 x1 :: W9))))⟩ :: P9 i x0 x1 :: W9
abbrev P8 : View.Piece (Elt Ideal) S2x256x128 .f32 :=
  ⟨Rect.unit (s := S2x256x128) ![0, 0, 0] S1x256x128.size inb_S2x256x128_S1x256x128_0_0_0,
    k0_pay55 (k0_pay43 x0) k0_pay47 (k0_pay48 (diagBlk i x1)) (k0_pay49 (diagBlk i x2)) x3 (row9 scM0_1 (scM0_1.view.writes (Elt Ideal) scM0_1.view.junk W9))
      (row8 scM0_0 (scM0_0.view.writes (Elt Ideal) scM0_0.view.junk W8))⟩
abbrev D8 : List (View.Piece (Elt Ideal) S2x256x128 .f32) :=
  ⟨Rect.unit (s := S2x256x128) ![1, 0, 0] S1x256x128.size inb_S2x256x128_S1x256x128_1_0_0,
    k0_pay1 (k0_pay49 (diagBlk i x2)) (k0_pay61 (row8' scM0_0 (scM0_0.view.writes (Elt Ideal) scM0_0.view.junk (P8 i x0 x1 x2 x3 :: W8))))
      (k0_pay62 (k0_pay44 x0) k0_pay47 (k0_pay48 (diagBlk i x1)) (k0_pay50 x3) (row9' scM0_1 (scM0_1.view.writes (Elt Ideal) scM0_1.view.junk (P9 i x0 x1 :: W9))))⟩
    :: P8 i x0 x1 x2 x3 :: W8

end Diagonal

abbrev G8 (c : Dev nD) (t : Fin cfg0.N) : BufTy.Contents (Elt Ideal) scM0_0.view.ty :=
  scM0_0.view.writes (Elt Ideal) scM0_0.view.junk (D8 (grid0.coords t) (iblk m c 0 t) (iblk m c 1 t) (iblk m c 2 t) (iblk m c 3 t))
abbrev G9 (c : Dev nD) (t : Fin cfg0.N) : BufTy.Contents (Elt Ideal) scM0_1.view.ty :=
  scM0_1.view.writes (Elt Ideal) scM0_1.view.junk (D9 (grid0.coords t) (iblk m c 0 t) (iblk m c 1 t))

/-! ## What the scratch holds after the diagonal block -/

section Fill

theorem pay45_at (j : S2x256x128.Idx) : k0_pay45 (F := Ideal) j = 0 := Ideal.ofBits_zero_f32
theorem pay46_at (j : S2x256x1.Idx) : k0_pay46 (F := Ideal) j = 0 := Ideal.ofBits_zero_f32

variable (r : Fin 256)

theorem fill9 : scM0_1.view.read (Elt Ideal) (scM0_1.view.writes (Elt Ideal) scM0_1.view.junk W9) (ix3 (0 : Fin 2) r 0) = 0 := by
  refine Eq.trans ?_ (pay46_at (ix3 (0 : Fin 2) r 0))
  exact View.read_writes_cons_unit_of_mem (Val := Elt Ideal) scM0_1.view scM0_1.view.junk inb_S2x256x1_S2x256x1_0_0_0 (k0_pay46 (F := Ideal)) [] (ix3 (0 : Fin 2) r 0) (ix3 (0 : Fin 2) r 0) rfl fun a => match a with
      | ⟨0, _⟩ => (Nat.zero_add _).symm
      | ⟨1, _⟩ => (Nat.zero_add _).symm
      | ⟨2, _⟩ => (Nat.zero_add _).symm

theorem fill9' (w : Vec Ideal S1x256x1 .f32) : scM0_1.view.read (Elt Ideal) (scM0_1.view.writes (Elt Ideal) scM0_1.view.junk
      (⟨Rect.unit (s := S2x256x1) ![0, 0, 0] S1x256x1.size inb_S2x256x1_S1x256x1_0_0_0, w⟩ :: W9)) (ix3 (1 : Fin 2) r 0) = 0 := by
  refine (View.read_writes_cons_unit_of_not_mem scM0_1.view _ inb_S2x256x1_S1x256x1_0_0_0 w W9 (ix3 (1 : Fin 2) r 0) rfl 0 (.inr (le_refl 1))).trans ?_
  refine Eq.trans ?_ (pay46_at (ix3 (1 : Fin 2) r 0))
  exact View.read_writes_cons_unit_of_mem (Val := Elt Ideal) scM0_1.view scM0_1.view.junk inb_S2x256x1_S2x256x1_0_0_0 (k0_pay46 (F := Ideal)) [] (ix3 (1 : Fin 2) r 0) (ix3 (1 : Fin 2) r 0) rfl fun a => match a with
      | ⟨0, _⟩ => (Nat.zero_add _).symm
      | ⟨1, _⟩ => (Nat.zero_add _).symm
      | ⟨2, _⟩ => (Nat.zero_add _).symm

variable (l : Fin 128)

theorem fill8 : scM0_0.view.read (Elt Ideal) (scM0_0.view.writes (Elt Ideal) scM0_0.view.junk W8) (ix3 (0 : Fin 2) r l) = 0 := by
  refine Eq.trans ?_ (pay45_at (ix3 (0 : Fin 2) r l))
  exact View.read_writes_cons_unit_of_mem (Val := Elt Ideal) scM0_0.view scM0_0.view.junk inb_S2x256x128_S2x256x128_0_0_0 (k0_pay45 (F := Ideal)) [] (ix3 (0 : Fin 2) r l) (ix3 (0 : Fin 2) r l) rfl fun a => match a with
      | ⟨0, _⟩ => (Nat.zero_add _).symm
      | ⟨1, _⟩ => (Nat.zero_add _).symm
      | ⟨2, _⟩ => (Nat.zero_add _).symm

theorem fill8' (w : Vec Ideal S1x256x128 .f32) : scM0_0.view.read (Elt Ideal) (scM0_0.view.writes (Elt Ideal) scM0_0.view.junk
      (⟨Rect.unit (s := S2x256x128) ![0, 0, 0] S1x256x128.size inb_S2x256x128_S1x256x128_0_0_0, w⟩ :: W8)) (ix3 (1 : Fin 2) r l) = 0 := by
  refine (View.read_writes_cons_unit_of_not_mem scM0_0.view _ inb_S2x256x128_S1x256x128_0_0_0 w W8 (ix3 (1 : Fin 2) r l) rfl 0 (.inr (le_refl 1))).trans ?_
  refine Eq.trans ?_ (pay45_at (ix3 (1 : Fin 2) r l))
  exact View.read_writes_cons_unit_of_mem (Val := Elt Ideal) scM0_0.view scM0_0.view.junk inb_S2x256x128_S2x256x128_0_0_0 (k0_pay45 (F := Ideal)) [] (ix3 (1 : Fin 2) r l) (ix3 (1 : Fin 2) r l) rfl fun a => match a with
      | ⟨0, _⟩ => (Nat.zero_add _).symm
      | ⟨1, _⟩ => (Nat.zero_add _).symm
      | ⟨2, _⟩ => (Nat.zero_add _).symm

end Fill

theorem diag_row (i : grid0.Coords) (s : Fin 256) : 256 * (i 2).val + s.val < 4096 := by
  have hj : (i 2).val < 16 := (i 2).isLt
  omega

theorem diagBlk_at (i : grid0.Coords) (x : Vec Ideal S1x4096x128 .bf16) (s : Fin 256) (l : Fin 128) :
    diagBlk i x (ix3 0 s l) = x (ix3 0 (⟨256 * (i 2).val + s.val, diag_row i s⟩ : Fin 4096) l) :=
  congrArg x (funext fun d => match d with
    | ⟨0, _⟩ => Fin.ext ((Nat.add_comm _ _).trans (congrFun (off_diag i) 0))
    | ⟨1, _⟩ => Fin.ext (show k0_off1 i 1 + 1 * s.val = _ by rw [off_diag i, one_mul]; rfl)
    | ⟨2, _⟩ => Fin.ext (show k0_off1 i 2 + 1 * l.val = _ by rw [off_diag i, one_mul]; exact Nat.zero_add _))

/-- The diagonal block takes the keys from the query block's first on. -/
theorem diag_taken (i : grid0.Coords) (x0 : Vec Ideal S1x256x128 .bf16) (x1 x2 : Vec Ideal S1x4096x128 .bf16) (x3 : Vec Ideal S256x256 .bf16)
    (z0 z1 : Fin 256 → ℕ → ℝ) (v : Fin 128 → ℕ → EReal)
    (hz0 : ∀ (r : Fin 256) (s : Fin 4096), ∑ l : Fin 128, k0_pay43 x0 (ix2 r l) * x1 (ix3 0 s l) = ((z0 r s : ℝ) : EReal))
    (hz1 : ∀ (r : Fin 256) (s : Fin 4096), ∑ l : Fin 128, k0_pay44 x0 (ix2 r l) * x1 (ix3 0 s l) = ((z1 r s : ℝ) : EReal))
    (hv : ∀ (s : Fin 4096) (l : Fin 128), x2 (ix3 0 s l) = v l s)
    (hu : ∀ w s : Fin 256, x3 (ix2 w s) = if s.val < w.val then 1 else 0) :
    Taken scM0_0 scM0_1 z0 z1 v (fun r => 256 * (i 2).val + r.val) (256 * (i 2).val)
      (scM0_0.view.writes (Elt Ideal) scM0_0.view.junk (D8 i x0 x1 x2 x3)) (scM0_1.view.writes (Elt Ideal) scM0_1.view.junk (D9 i x0 x1)) := by
  have hj : (i 2).val < 16 := (i 2).isLt
  have hn : 256 * (i 2).val + 256 ≤ 4096 := by omega
  have z0' : ∀ r s : Fin 256, ∑ l : Fin 128, k0_pay43 x0 (ix2 r l) * diagBlk i x1 (ix3 0 s l) = ((z0 r (256 * (i 2).val + s) : ℝ) : EReal) := fun r s =>
    (Finset.sum_congr rfl fun l _ => by rw [diagBlk_at]).trans (hz0 r ⟨_, diag_row i s⟩)
  have z1' : ∀ r s : Fin 256, ∑ l : Fin 128, k0_pay44 x0 (ix2 r l) * diagBlk i x1 (ix3 0 s l) = ((z1 r (256 * (i 2).val + s) : ℝ) : EReal) := fun r s =>
    (Finset.sum_congr rfl fun l _ => by rw [diagBlk_at]).trans (hz1 r ⟨_, diag_row i s⟩)
  have v' : ∀ (s : Fin 256) (l : Fin 128), diagBlk i x2 (ix3 0 s l) = v l (256 * (i 2).val + s) := fun s l =>
    (diagBlk_at i x2 s l).trans (hv ⟨_, diag_row i s⟩ l)
  constructor
  · intro r l
    refine (read8_zero scM0_0 _ _ _ W8 r l).trans ?_
    exact diag_acc0 (k0_pay43 x0) (diagBlk i x1) (diagBlk i x2) x3 _ _ _ hn z0 v z0' hu v'
      (fun r l => (row8_at scM0_0 _ r l).trans (fill8 r l)) (fun r => (row9_at scM0_1 _ r).trans (fill9 r)) r l
  · intro r l
    refine (read8_one scM0_0 _ _ _ r l).trans ?_
    exact diag_acc1 (k0_pay44 x0) (diagBlk i x1) (diagBlk i x2) x3 _ _ _ hn z1 v z1' hu v'
      (fun r l => (row8'_at scM0_0 _ r l).trans (fill8' r l _)) (fun r => (row9'_at scM0_1 _ r).trans (fill9' r _)) r l
  · intro r
    refine (read9_zero scM0_1 _ _ _ W9 r).trans ?_
    exact diag_carry0 (k0_pay43 x0) (diagBlk i x1) _ _ hn z0 z0' (fun r => (row9_at scM0_1 _ r).trans (fill9 r)) r
  · intro r
    refine (read9_one scM0_1 _ _ _ r).trans ?_
    exact diag_carry1 (k0_pay44 x0) (diagBlk i x1) _ _ hn z1 z1' (fun r => (row9'_at scM0_1 _ r).trans (fill9' r _)) r

/-- The first loop's state after its trips. -/
abbrev st1 (c : Dev nD) (t : Fin cfg0.N) :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (BitVec.ofNat 32 (grid0.coords t 2)) (k0_pay43 (iblk m c 0 t)) (k0_pay44 (iblk m c 0 t))
    ((hs0_1 t).unread (iblk m c 1 t)) ((hs0_2 t).unread (iblk m c 2 t)) ((hs0_3 t).unread (iblk m c 3 t))
    (G8 m c t) (G9 m c t) 0#32 (k0_t1_loop (grid0.coords t)).trips

set_option maxHeartbeats 1600000 in
/-- What the body leaves in its output: the two rows of the scratch, side by side. -/
theorem out_raw (c : Dev nD) (t : Fin cfg0.N) : ∃ (v129 init : BitVec 32) (f8 : BufTy.Contents (Elt Ideal) scM0_0.view.ty) (f9 : BufTy.Contents (Elt Ideal) scM0_1.view.ty),
    outsAt0 m c t = k0_pay7 k0_pay40
      (row8 scM0_0 (scM0_0.view.writes (Elt Ideal) scM0_0.view.junk
        ((st_k0_t2 (F := Ideal) Variants.none c none (grid0.coords t) (ms0_0 t) (hs0_0 t) (ms0_1 t) (hs0_1 t) (ms0_2 t) (hs0_2 t) (ms0_3 t) (hs0_3 t) (ms0_4 t) (hs0_4 t)
          scM0_0 (Memref.isWhole_whole _) scM0_1 (Memref.isWhole_whole _) (BitVec.ofNat 32 (grid0.coords t 2)) (k0_pay43 (iblk m c 0 t)) (k0_pay44 (iblk m c 0 t)) v129
          ((hs0_1 t).unread (iblk m c 1 t)) ((hs0_2 t).unread (iblk m c 2 t)) ((hs0_3 t).unread (iblk m c 3 t)) f8 f9 init (k0_t2_loop (grid0.coords t)).trips).2.1
          ++ ((st1 m c t).2.1 ++ D8 (grid0.coords t) (iblk m c 0 t) (iblk m c 1 t) (iblk m c 2 t) (iblk m c 3 t)))))
      (row8' scM0_0 (scM0_0.view.writes (Elt Ideal) scM0_0.view.junk
        ((st_k0_t2 (F := Ideal) Variants.none c none (grid0.coords t) (ms0_0 t) (hs0_0 t) (ms0_1 t) (hs0_1 t) (ms0_2 t) (hs0_2 t) (ms0_3 t) (hs0_3 t) (ms0_4 t) (hs0_4 t)
          scM0_0 (Memref.isWhole_whole _) scM0_1 (Memref.isWhole_whole _) (BitVec.ofNat 32 (grid0.coords t 2)) (k0_pay43 (iblk m c 0 t)) (k0_pay44 (iblk m c 0 t)) v129
          ((hs0_1 t).unread (iblk m c 1 t)) ((hs0_2 t).unread (iblk m c 2 t)) ((hs0_3 t).unread (iblk m c 3 t)) f8 f9 init (k0_t2_loop (grid0.coords t)).trips).2.1
          ++ ((st1 m c t).2.1 ++ D8 (grid0.coords t) (iblk m c 0 t) (iblk m c 1 t) (iblk m c 2 t) (iblk m c 3 t))))) := by
  refine ⟨Scalar.addi 0#32 (Scalar.muli (Scalar.divsi (Scalar.subi (BitVec.ofNat 32 (grid0.coords t 2)) 0#32) 1#32) 1#32), (st1 m c t).1,
    scM0_0.view.writes (Elt Ideal) scM0_0.view.junk ((st1 m c t).2.1 ++ D8 (grid0.coords t) (iblk m c 0 t) (iblk m c 1 t) (iblk m c 2 t) (iblk m c 3 t)),
    scM0_1.view.writes (Elt Ideal) scM0_1.view.junk ((st1 m c t).2.2 ++ D9 (grid0.coords t) (iblk m c 0 t) (iblk m c 1 t)), ?_⟩
  generalize hR : k0_pay7 (F := Ideal) k0_pay40 _ _ = R
  unfold outsAt0
  frame_out
  sl_unfold_words
  exact hR

end Cert.KernelIdeal.Proj

end
-- ==== Proof.SbRef.lean ====
module

public import proofs.«01_k».proof.Proof.SbForm
public import proofs.«01_k».proof.Proof.Gen.ReferenceIdeal.Read
public import Idealize.ShloMosaic.Lib.Pipeline.ValueKit
public import Idealize.ShloMosaic.Lib.WordCmp

@[expose] public section

set_option maxRecDepth 16384

noncomputable section

namespace Cert.ReferenceIdeal.Proj

open Cert.ReferenceIdeal Cert.ReferenceIdeal.Gen Cert.ReferenceIdeal.Read Idealize.ShloMosaic Idealize.ShloMosaic.Pointwise
open Cert.Stick

/-! ## The running sum from the end -/

theorem foldl_add {ι : Type*} (g : ι → EReal) (L : List ι) (v : EReal) : L.foldl (fun r n => r + g n) v = v + (L.map g).sum := by
  induction L generalizing v with
  | nil => simp
  | cons a L ih => rw [List.foldl_cons, ih, List.map_cons, List.sum_cons, add_assoc]

/-- The entries from `s` on of a row, summed by a window as long as the row and padded behind it. -/
theorem sum_from (y : FVec Ideal S4x16x4096x4096 .f32) (i0 : FVec Ideal S_ .f32) (hi : ∀ e, i0 e = 0)
    (b : Fin 4) (h : Fin 16) (t : Fin 4096) (f : ℕ → EReal) (hf : ∀ m : Fin 4096, y (ix4 b h t m) = f m) (s : Fin 4096) :
    Host.reduceWindowAdd ![1, 1, 1, 4096] ![1, 1, 1, 1] ![0, 0, 0, 0] ![0, 0, 0, 4095] y i0
        reduceWindows_S4x16x4096x4096_S4x16x4096x4096_w1s1p0_0_w1s1p0_0_w1s1p0_0_w4096s1p0_4095 h_S_ (ix4 b h t s)
      = ∑ m ∈ Finset.Ico s.val 4096, f m := by
  unfold Host.reduceWindowAdd
  rw [Ideal.hostReduceWindowAdd_def]
  unfold Ideal.hostReduceWindowAdd Host.reduceWindow
  dsimp only
  rw [foldl_add, hi, zero_add, ← Fin.sum_univ_def]
  refine (Finset.sum_congr rfl fun n _ => (?_ : _ = (fun w : (⟨4, ![1, 1, 1, 4096]⟩ : Shape).Idx => if s.val + (w 3).val < 4096 then f (s.val + (w 3).val) else 0)
    ((Shape.rowMajor (⟨4, ![1, 1, 1, 4096]⟩ : Shape)).symm n))).trans ((Equiv.sum_comp (Shape.rowMajor (⟨4, ![1, 1, 1, 4096]⟩ : Shape)).symm (fun w : (⟨4, ![1, 1, 1, 4096]⟩ : Shape).Idx => if s.val + (w 3).val < 4096 then f (s.val + (w 3).val) else 0)).trans ?_)
  · have w0 : ((Shape.rowMajor (⟨4, ![1, 1, 1, 4096]⟩ : Shape)).symm n 0).val = 0 := Nat.lt_one_iff.mp ((Shape.rowMajor (⟨4, ![1, 1, 1, 4096]⟩ : Shape)).symm n 0).isLt
    have w1 : ((Shape.rowMajor (⟨4, ![1, 1, 1, 4096]⟩ : Shape)).symm n 1).val = 0 := Nat.lt_one_iff.mp ((Shape.rowMajor (⟨4, ![1, 1, 1, 4096]⟩ : Shape)).symm n 1).isLt
    have w2 : ((Shape.rowMajor (⟨4, ![1, 1, 1, 4096]⟩ : Shape)).symm n 2).val = 0 := Nat.lt_one_iff.mp ((Shape.rowMajor (⟨4, ![1, 1, 1, 4096]⟩ : Shape)).symm n 2).isLt
    dsimp only
    by_cases hs : s.val + ((Shape.rowMajor (⟨4, ![1, 1, 1, 4096]⟩ : Shape)).symm n 3).val < 4096
    · rw [if_pos hs, dif_pos]
      · refine Eq.trans (congrArg y (funext fun a => Fin.ext ?_)) (hf ⟨s.val + ((Shape.rowMajor (⟨4, ![1, 1, 1, 4096]⟩ : Shape)).symm n 3).val, hs⟩)
        match a with
        | ⟨0, _⟩ => show b.val * 1 + ((Shape.rowMajor (⟨4, ![1, 1, 1, 4096]⟩ : Shape)).symm n 0).val - 0 = b.val; omega
        | ⟨1, _⟩ => show h.val * 1 + ((Shape.rowMajor (⟨4, ![1, 1, 1, 4096]⟩ : Shape)).symm n 1).val - 0 = h.val; omega
        | ⟨2, _⟩ => show t.val * 1 + ((Shape.rowMajor (⟨4, ![1, 1, 1, 4096]⟩ : Shape)).symm n 2).val - 0 = t.val; omega
        | ⟨3, _⟩ => show s.val * 1 + ((Shape.rowMajor (⟨4, ![1, 1, 1, 4096]⟩ : Shape)).symm n 3).val - 0 = s.val + ((Shape.rowMajor (⟨4, ![1, 1, 1, 4096]⟩ : Shape)).symm n 3).val; omega
      · intro a
        have hb := b.isLt
        have hh := h.isLt
        have ht := t.isLt
        match a with
        | ⟨0, _⟩ => show 0 ≤ b.val * 1 + ((Shape.rowMajor (⟨4, ![1, 1, 1, 4096]⟩ : Shape)).symm n 0).val ∧ b.val * 1 + ((Shape.rowMajor (⟨4, ![1, 1, 1, 4096]⟩ : Shape)).symm n 0).val - 0 < 4; omega
        | ⟨1, _⟩ => show 0 ≤ h.val * 1 + ((Shape.rowMajor (⟨4, ![1, 1, 1, 4096]⟩ : Shape)).symm n 1).val ∧ h.val * 1 + ((Shape.rowMajor (⟨4, ![1, 1, 1, 4096]⟩ : Shape)).symm n 1).val - 0 < 16; omega
        | ⟨2, _⟩ => show 0 ≤ t.val * 1 + ((Shape.rowMajor (⟨4, ![1, 1, 1, 4096]⟩ : Shape)).symm n 2).val ∧ t.val * 1 + ((Shape.rowMajor (⟨4, ![1, 1, 1, 4096]⟩ : Shape)).symm n 2).val - 0 < 4096; omega
        | ⟨3, _⟩ => show 0 ≤ s.val * 1 + ((Shape.rowMajor (⟨4, ![1, 1, 1, 4096]⟩ : Shape)).symm n 3).val ∧ s.val * 1 + ((Shape.rowMajor (⟨4, ![1, 1, 1, 4096]⟩ : Shape)).symm n 3).val - 0 < 4096; omega
    · rw [if_neg hs, dif_neg]
      intro hin
      have h3 : 0 ≤ s.val * 1 + ((Shape.rowMajor (⟨4, ![1, 1, 1, 4096]⟩ : Shape)).symm n 3).val ∧ s.val * 1 + ((Shape.rowMajor (⟨4, ![1, 1, 1, 4096]⟩ : Shape)).symm n 3).val - 0 < 4096 := hin 3
      omega
  · rw [sum_idx4]
    simp only [Fin.sum_univ_one]
    show ∑ m : Fin 4096, (if s.val + m.val < 4096 then f (s.val + m.val) else 0) = _
    rw [Fin.sum_univ_eq_sum_range (fun m => if s.val + m < 4096 then f (s.val + m) else 0) 4096, ← Finset.sum_filter,
      Finset.sum_Ico_eq_sum_range]
    refine Finset.sum_congr (Finset.ext fun m => ?_) fun _ _ => rfl
    simp only [Finset.mem_filter, Finset.mem_range]
    omega

variable (x : (⟨S4x4096x11264, .bf16⟩ : BufTy).Contents (Elt Ideal)) (hx : RealQK x)

include hx

set_option maxHeartbeats 1600000 in
theorem score_ref (b : Fin 4) (h : Fin 16) (t s : Fin 4096) :
    val_main_v18 (F := Ideal) x (ix4 b h t s) = ((score x b h t s.val : ℝ) : EReal) := by
  rw [← score_coe x hx, ← eighth_f32]
  pointwise [val_main_v18, val_main_v17, val_main_cst, val_main_v16, val_main_v3, val_main_v6, val_main_v2, val_main_v5, val_main_v1, val_main_v4, val_main_v0]

set_option maxHeartbeats 1600000 in
theorem keep_ref (b : Fin 4) (h : Fin 16) (t s : Fin 4096) :
    val_main_v21 (F := Ideal) x (ix4 b h t s) = ((keep t.val (score x b h t) s.val : ℝ) : EReal) := by
  pointwise [val_main_v21, val_main_v20, val_main_v19, val_main_call1_v0, val_main_call1_v1, val_main_call1_v2, val_main_cst_0, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_cst, val_main_v10, val_main_v11, val_main_v12, val_main_v13, val_main_v14, val_main_v15]
  rw [score_ref x hx, if_neg (not_not.mpr rfl)]
  simp (disch := word_cmp_side) only [hlo_ix]
  rw [keep]
  split_ifs with hs
  · rw [Ideal.log1p, Ideal.absf_def, spH, EReal.coe_neg]
  · exact Ideal.ofBits_zero_f32

set_option maxHeartbeats 1600000 in
theorem take_ref (b : Fin 4) (h : Fin 16) (t s : Fin 4096) :
    val_main_v27 (F := Ideal) x (ix4 b h t s) = ((-sp (-score x b h t s.val) : ℝ) : EReal) := by
  pointwise [val_main_v27, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_call0_cst, val_main_call3_v0, val_main_call3_v1]
  rw [score_ref x hx, if_neg (not_not.mpr rfl), Ideal.log1p, Ideal.absf_def, ← EReal.coe_neg, spH, EReal.coe_neg]

set_option maxHeartbeats 1600000 in
theorem behind_ref (b : Fin 4) (h : Fin 16) (t s : Fin 4096) :
    val_main_v26 (F := Ideal) x (ix4 b h t s) = ((∑ m ∈ Finset.Ico (s.val + 1) 4096, keep t.val (score x b h t) m : ℝ) : EReal) := by
  pointwise [val_main_v26, val_main_v25, val_main_v23, val_main_cst_1]
  split_ifs with hs
  · unfold val_main_v22
    refine (sum_from _ _ (fun e => Ideal.ofBits_zero_f32) b h t (fun m => ((keep t.val (score x b h t) m : ℝ) : EReal)) (fun m => keep_ref x hx b h t m) _).trans ?_
    rw [coe_sum]
    exact congrArg (fun n => ((∑ m ∈ Finset.Ico n 4096, keep t.val (score x b h t) m : ℝ) : EReal)) (Nat.add_comm 1 s.val)
  · rw [Finset.Ico_eq_empty (by omega), Finset.sum_empty, EReal.coe_zero]

set_option maxHeartbeats 1600000 in
theorem weight_ref (b : Fin 4) (h : Fin 16) (t s : Fin 4096) :
    val_main_v30 (F := Ideal) x (ix4 b h t s) = ((wt t.val (score x b h t) s.val : ℝ) : EReal) := by
  pointwise [val_main_v30, val_main_v29, val_main_v28, val_main_call4_v0, val_main_call4_v1, val_main_call4_v2, val_main_cst_2, val_main_v10, val_main_v11, val_main_v12, val_main_v13, val_main_v14, val_main_v15]
  rw [take_ref x hx, behind_ref x hx]
  simp (disch := word_cmp_side) only [hlo_ix]
  rw [wt]
  split_ifs with hs
  · rw [← EReal.coe_add, Ideal.exp_coe]
  · exact Ideal.ofBits_zero_f32

/-- The reference's result. -/
theorem out_ref (b : Fin 4) (t : Fin 4096) (h : Fin 16) (d : Fin 64) :
    val_main_v34 (F := Ideal) x (ix3 b t (⟨h.val * 64 + d.val, by omega⟩ : Fin 1024)) = mixed x b h t d := by
  pointwise [val_main_v34, val_main_v33, val_main_v32, val_main_v31, val_main_v9, val_main_v8, val_main_v7, val_main_v0]
  exact Finset.sum_congr rfl fun s _ => by rw [weight_ref x hx]

end Cert.ReferenceIdeal.Proj

end
-- ==== Proof.SbVal.lean ====
module

public import proofs.«01_k».proof.Proof.SbState
public import proofs.«01_k».proof.Proof.SbRef

@[expose] public section

set_option maxRecDepth 16384

noncomputable section

namespace Cert.KernelIdeal.Proj

open Cert.KernelIdeal Cert.KernelIdeal.Gen Idealize.ShloMosaic Idealize.ShloMosaic.TcCoe Idealize.SL.Sem
open Cert.Stick

/-! ## The scores of a block's two heads -/

/-- A sum over the lanes of which the second half is zeroed and the first is scaled. -/
theorem low_sum (f k : Fin 128 → EReal) (F K : Fin 64 → ℝ) (hf : ∀ d : Fin 64, f ⟨d.val, by omega⟩ = ((F d : ℝ) : EReal))
    (hk : ∀ d : Fin 64, k ⟨d.val, by omega⟩ = ((K d : ℝ) : EReal)) :
    ∑ l : Fin 128, (if l.val < 64 then f l * ((1 / 8 : ℝ) : EReal) else 0) * k l = (((∑ d, F d * K d) * (1 / 8) : ℝ) : EReal) := by
  rw [Fin.sum_univ_two_halves 64 64 rfl, Finset.sum_mul, ← coe_sum]
  refine (congrArg₂ (· + ·) (Finset.sum_congr rfl fun d _ => ?_) (Finset.sum_eq_zero fun d _ => ?_)).trans (add_zero _)
  · show (if d.val < 64 then _ else _) * _ = _
    rw [if_pos d.isLt, hf, hk, ← EReal.coe_mul, ← EReal.coe_mul]
    exact congrArg _ (by ring)
  · show (if 64 + d.val < 64 then _ else _) * _ = _
    rw [if_neg (by omega), zero_mul]

/-- … and one of which the first half is zeroed. -/
theorem high_sum (f k : Fin 128 → EReal) (F K : Fin 64 → ℝ) (hf : ∀ d : Fin 64, f ⟨64 + d.val, by omega⟩ = ((F d : ℝ) : EReal))
    (hk : ∀ d : Fin 64, k ⟨64 + d.val, by omega⟩ = ((K d : ℝ) : EReal)) :
    ∑ l : Fin 128, (if l.val < 64 then 0 else f l * ((1 / 8 : ℝ) : EReal)) * k l = (((∑ d, F d * K d) * (1 / 8) : ℝ) : EReal) := by
  rw [Fin.sum_univ_two_halves 64 64 rfl, Finset.sum_mul, ← coe_sum]
  refine (congrArg₂ (· + ·) (Finset.sum_eq_zero fun d _ => ?_) (Finset.sum_congr rfl fun d _ => ?_)).trans (zero_add _)
  · show (if d.val < 64 then _ else _) * _ = _
    rw [if_pos d.isLt, zero_mul]
  · show (if 64 + d.val < 64 then _ else _) * _ = _
    rw [if_neg (by omega), hf, hk, ← EReal.coe_mul, ← EReal.coe_mul]
    exact congrArg _ (by ring)

theorem pay43_at (q : Vec Ideal S1x256x128 .bf16) (r : Fin 256) (l : Fin 128) :
    k0_pay43 q (ix2 r l) = if l.val < 64 then q (ix3 0 r l) * ((1 / 8 : ℝ) : EReal) else 0 := by
  pointwise [k0_pay43, k0_pay40, k0_pay41, k0_pay42]
  simp (disch := word_cmp_side) only [hlo_ix]
  rw [← eighth_bf16]

theorem pay44_at (q : Vec Ideal S1x256x128 .bf16) (r : Fin 256) (l : Fin 128) :
    k0_pay44 q (ix2 r l) = if l.val < 64 then 0 else q (ix3 0 r l) * ((1 / 8 : ℝ) : EReal) := by
  pointwise [k0_pay44, k0_pay40, k0_pay41, k0_pay42]
  simp (disch := word_cmp_side) only [hlo_ix]
  rw [← eighth_bf16]

theorem pay7_at (a b : Vec Ideal S1x256x128 .f32) (r : Fin 256) (l : Fin 128) :
    k0_pay7 k0_pay40 a b (ix3 0 r l) = if l.val < 64 then a (ix3 0 r l) else b (ix3 0 r l) := by
  pointwise [k0_pay7, k0_pay40]
  simp (disch := word_cmp_side) only [hlo_ix]

variable (m : (ℓ : Loc nD τ sig) → Buf (Elt Ideal) ℓ)

/-- The batch, the query's row and the two heads of grid point `t`. -/
abbrev bat (t : Fin cfg0.N) : Fin 4 := ⟨t.val / 128, (idx t).2.2.2.2.2.1⟩
abbrev qrow (t : Fin cfg0.N) (r : Fin 256) : Fin 4096 := ⟨t.val % 16 * 256 + r.val, by omega⟩
abbrev headA (t : Fin cfg0.N) : Fin 16 := ⟨t.val / 16 % 8 * 2, by omega⟩
abbrev headB (t : Fin cfg0.N) : Fin 16 := ⟨t.val / 16 % 8 * 2 + 1, by omega⟩

theorem real_at (x : S4x4096x11264.Idx → EReal) (hx : RealQK x) (b : Fin 4) (s : Fin 4096) (j j' : Fin 11264) (e : j.val = j'.val) (h1 : 6144 ≤ j'.val) (h2 : j'.val < 8192) :
    x (ix3 b s j) = (((x (ix3 b s j')).toReal : ℝ) : EReal) := by
  obtain rfl := Fin.ext e
  exact hx b s j h1 h2

theorem scoreA (c : Dev nD) (hx : RealQK (X m c)) (t : Fin cfg0.N) (r : Fin 256) (s : Fin 4096) :
    ∑ l : Fin 128, k0_pay43 (iblk m c 0 t) (ix2 r l) * iblk m c 1 t (ix3 0 s l) = ((score (X m c) (bat t) (headA t) (qrow t r) s.val : ℝ) : EReal) := by
  rw [score_at]
  simp only [pay43_at, q_blk, k_blk]
  exact low_sum (fun l => X m c (ix3 (bat t) (qrow t r) ⟨6144 + (t.val / 16 % 8 * 128 + l.val), by omega⟩)) (fun l => X m c (ix3 (bat t) s ⟨7168 + (t.val / 16 % 8 * 128 + l.val), by omega⟩)) _ _
    (fun d => real_at _ hx _ _ _ (qcol (headA t) d) (by show 6144 + (_ + d.val) = 6144 + (t.val / 16 % 8 * 2 * 64 + d.val); omega) (by show 6144 ≤ 6144 + _; omega) (by show 6144 + (t.val / 16 % 8 * 2 * 64 + d.val) < _; omega))
    (fun d => real_at _ hx _ _ _ (kcol (headA t) d) (by show 7168 + (_ + d.val) = 7168 + (t.val / 16 % 8 * 2 * 64 + d.val); omega) (by show 6144 ≤ 7168 + _; omega) (by show 7168 + (t.val / 16 % 8 * 2 * 64 + d.val) < _; omega))

theorem scoreB (c : Dev nD) (hx : RealQK (X m c)) (t : Fin cfg0.N) (r : Fin 256) (s : Fin 4096) :
    ∑ l : Fin 128, k0_pay44 (iblk m c 0 t) (ix2 r l) * iblk m c 1 t (ix3 0 s l) = ((score (X m c) (bat t) (headB t) (qrow t r) s.val : ℝ) : EReal) := by
  rw [score_at]
  simp only [pay44_at, q_blk, k_blk]
  exact high_sum (fun l => X m c (ix3 (bat t) (qrow t r) ⟨6144 + (t.val / 16 % 8 * 128 + l.val), by omega⟩)) (fun l => X m c (ix3 (bat t) s ⟨7168 + (t.val / 16 % 8 * 128 + l.val), by omega⟩)) _ _
    (fun d => real_at _ hx _ _ _ (qcol (headB t) d) (by show 6144 + (_ + (64 + d.val)) = 6144 + ((t.val / 16 % 8 * 2 + 1) * 64 + d.val); omega) (by show 6144 ≤ 6144 + _; omega) (by show 6144 + ((t.val / 16 % 8 * 2 + 1) * 64 + d.val) < _; omega))
    (fun d => real_at _ hx _ _ _ (kcol (headB t) d) (by show 7168 + (_ + (64 + d.val)) = 7168 + ((t.val / 16 % 8 * 2 + 1) * 64 + d.val); omega) (by show 6144 ≤ 7168 + _; omega) (by show 7168 + ((t.val / 16 % 8 * 2 + 1) * 64 + d.val) < _; omega))

/-- The values of grid point `t`'s two heads, side by side. -/
def vals (c : Dev nD) (t : Fin cfg0.N) (l : Fin 128) (n : ℕ) : EReal :=
  if hn : n < 4096 then X m c (ix3 (bat t) ⟨n, hn⟩ ⟨8192 + (t.val / 16 % 8 * 128 + l.val), by omega⟩) else 0

theorem vals_at (c : Dev nD) (t : Fin cfg0.N) (s : Fin 4096) (l : Fin 128) : iblk m c 2 t (ix3 0 s l) = vals m c t l s :=
  (v_blk m c t s l).trans (by rw [vals, dif_pos s.isLt])

/-- The first loop ends with every key taken. -/
theorem all_taken (c : Dev nD) (hx : RealQK (X m c)) (t : Fin cfg0.N) :
    Taken scM0_0 scM0_1 (fun r => score (X m c) (bat t) (headA t) (qrow t r)) (fun r => score (X m c) (bat t) (headB t) (qrow t r)) (vals m c t)
      (fun r => 256 * (grid0.coords t 2).val + r.val) 0
      (scM0_0.view.writes (Elt Ideal) (G8 m c t) (st1 m c t).2.1) (scM0_1.view.writes (Elt Ideal) (G9 m c t) (st1 m c t).2.2) := by
  have h := loop_taken Variants.none c none (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (BitVec.ofNat 32 (grid0.coords t 2)) (k0_pay43 (iblk m c 0 t)) (k0_pay44 (iblk m c 0 t))
    ((hs0_1 t).unread (iblk m c 1 t)) ((hs0_2 t).unread (iblk m c 2 t)) ((hs0_3 t).unread (iblk m c 3 t))
    (G8 m c t) (G9 m c t) 0#32
    (fun r => score (X m c) (bat t) (headA t) (qrow t r)) (fun r => score (X m c) (bat t) (headB t) (qrow t r)) (vals m c t)
    (fun r s => by rw [(hs0_1 t).read_unread]; exact scoreA m c hx t r s)
    (fun r s => by rw [(hs0_1 t).read_unread]; exact scoreB m c hx t r s)
    (fun s l => by rw [(hs0_2 t).read_unread]; exact vals_at m c t s l)
    (fun w s => by rw [(hs0_3 t).read_unread]; exact u_blk m c t w s)
    (diag_taken (grid0.coords t) (iblk m c 0 t) (iblk m c 1 t) (iblk m c 2 t) (iblk m c 3 t) _ _ _ (scoreA m c hx t) (scoreB m c hx t) (vals_at m c t) (u_blk m c t))
    (k0_t1_loop (grid0.coords t)).trips (loop_trips (grid0.coords t)).le
  rw [show 256 * ((grid0.coords t 2).val - (k0_t1_loop (grid0.coords t)).trips) = 0 by rw [loop_trips, Nat.sub_self]] at h
  exact h

/-- A block of the output, lane by lane. -/
theorem out_at (c : Dev nD) (hx : RealQK (X m c)) (t : Fin cfg0.N) (r : Fin 256) (l : Fin 128) :
    outsAt0 m c t (ix3 0 r l) = if l.val < 64
      then ∑ s : Fin 4096, ((wt (256 * (grid0.coords t 2).val + r.val) (score (X m c) (bat t) (headA t) (qrow t r)) s : ℝ) : EReal) * vals m c t l s
      else ∑ s : Fin 4096, ((wt (256 * (grid0.coords t 2).val + r.val) (score (X m c) (bat t) (headB t) (qrow t r)) s : ℝ) : EReal) * vals m c t l s := by
  obtain ⟨v129, init, f8, f9, e⟩ := out_raw m c t
  have h := all_taken m c hx t
  rw [e, pay7_at, row8_at, row8'_at, rest_none, List.nil_append, View.writes_append, h.acc0, h.acc1, all_keys, all_keys]

theorem row_at (t : Fin cfg0.N) (r : Fin 256) : 256 * (grid0.coords t 2).val + r.val = (qrow t r).val := by
  rw [(idx t).2.2.2.2.2.2]
  show _ = t.val % 16 * 256 + r.val
  omega

theorem col_eq (x : S4x4096x11264.Idx → EReal) (b : Fin 4) (s : Fin 4096) (j j' : Fin 11264) (e : j.val = j'.val) : x (ix3 b s j) = x (ix3 b s j') := by
  obtain rfl := Fin.ext e
  rfl

theorem vals_low (c : Dev nD) (t : Fin cfg0.N) (s : Fin 4096) (d : Fin 64) :
    vals m c t ⟨d.val, by omega⟩ s = X m c (ix3 (bat t) s (vcol (headA t) d)) := by
  unfold vals
  exact (dif_pos s.isLt).trans (col_eq (X m c) (bat t) s _ _ (show 8192 + (t.val / 16 % 8 * 128 + d.val) = 8192 + (t.val / 16 % 8 * 2 * 64 + d.val) by omega))

theorem vals_high (c : Dev nD) (t : Fin cfg0.N) (s : Fin 4096) (d : Fin 64) :
    vals m c t ⟨64 + d.val, by omega⟩ s = X m c (ix3 (bat t) s (vcol (headB t) d)) := by
  unfold vals
  exact (dif_pos s.isLt).trans (col_eq (X m c) (bat t) s _ _ (show 8192 + (t.val / 16 % 8 * 128 + (64 + d.val)) = 8192 + ((t.val / 16 % 8 * 2 + 1) * 64 + d.val) by omega))

/-- Lane `d` of the second head. -/
abbrev hiLane (d : Fin 64) : Fin 128 := ⟨64 + d.val, by omega⟩

/-- A block of the output is the reference's. -/
theorem out_eq (c : Dev nD) (hx : RealQK (X m c)) (t : Fin cfg0.N) (r : Fin 256) (l : Fin 128) :
    outsAt0 m c t (ix3 0 r l) = Cert.ReferenceIdeal.Read.val_main_v34 (F := Ideal) (X m c) (ix3 (bat t) (qrow t r) (⟨t.val / 16 % 8 * 128 + l.val, by omega⟩ : Fin 1024)) := by
  rw [out_at m c hx, row_at]
  by_cases hl : l.val < 64
  · rw [if_pos hl]
    have e := Cert.ReferenceIdeal.Proj.out_ref (X m c) hx (bat t) (qrow t r) (headA t) ⟨l.val, hl⟩
    refine Eq.trans ?_ (e.symm.trans (congrArg (fun j => Cert.ReferenceIdeal.Read.val_main_v34 (F := Ideal) (X m c) (ix3 (bat t) (qrow t r) j)) (Fin.ext ?_)))
    · exact Finset.sum_congr rfl fun s _ => congrArg _ (vals_low m c t s ⟨l.val, hl⟩)
    · show t.val / 16 % 8 * 2 * 64 + l.val = t.val / 16 % 8 * 128 + l.val
      omega
  · rw [if_neg hl]
    obtain ⟨d, rfl⟩ : ∃ d : Fin 64, l = hiLane d := ⟨⟨l.val - 64, by omega⟩, Fin.ext (by show l.val = 64 + (l.val - 64); omega)⟩
    have e := Cert.ReferenceIdeal.Proj.out_ref (X m c) hx (bat t) (qrow t r) (headB t) d
    refine Eq.trans ?_ (e.symm.trans (congrArg (fun j => Cert.ReferenceIdeal.Read.val_main_v34 (F := Ideal) (X m c) (ix3 (bat t) (qrow t r) j)) (Fin.ext ?_)))
    · exact Finset.sum_congr rfl fun s _ => congrArg _ (vals_high m c t s d)
    · show (t.val / 16 % 8 * 2 + 1) * 64 + d.val = t.val / 16 % 8 * 128 + (64 + d.val)
      omega

set_option maxHeartbeats 1600000 in
/-- The result array of the stick-breaking mixing is the reference's. -/
theorem final (c : Dev nD) (hx : RealQK (X m c)) : (dats m 0 c).arrAt 4 cfg0.N = Cert.ReferenceIdeal.Read.val_main_v34 (F := Ideal) (X m c) := by
  refine (dats m 0 c).arrAt_eq_of_covers 4 _ (by decide +kernel) fun t _ y => ?_
  blk_simp
  rw [after0_4]
  have e : ∀ y : S1x256x128.Idx, outsAt0 m c t y = Cert.ReferenceIdeal.Read.val_main_v34 (F := Ideal) (X m c) ((win0_4.blk t).view.emb y) := fun y => by
    obtain ⟨a, r, l, rfl⟩ : ∃ (a : Fin 1) (r : Fin 256) (l : Fin 128), y = ix3 a r l := ⟨y 0, y 1, y 2, eq_ix3 y⟩
    obtain rfl : a = 0 := Subsingleton.elim _ _
    refine (out_eq m c hx t r l).trans (congrArg _ ?_)
    blk_point [idx t]
  exact e y

end Cert.KernelIdeal.Proj

end
-- ==== Proof.SbPre.lean ====
module

public import proofs.«01_k».proof.Proof.SbForm
public import proofs.«01_k».proof.Pre_finite_qk

@[expose] public section

set_option maxRecDepth 16384

noncomputable section

namespace Cert.Stick

open Idealize.ShloMosaic

/-- The precondition: the queries and the keys are reals. -/
theorem real_of_pre [Cert.Pre_finite_qk.Facts] (x : FVec Ideal Cert.Pre_finite_qk.S4x4096x11264 .bf16)
    (h : Cert.Pre_finite_qk.fn (F := Ideal) x = fun _ => 1#1) : RealQK x := by
  intro b t j h1 h2
  have e := congrFun h (ix3 b t (⟨j.val - 6144, by omega⟩ : Fin 2048))
  unfold Cert.Pre_finite_qk.fn at e
  pointwise at e
  rw [inf_f32] at e
  have hlt : max (x (ix3 b t j)) (-(x (ix3 b t j))) < ⊤ := by
    by_contra hn
    have ej : x (ix3 b t (⟨6144 + (j.val - 6144), by omega⟩ : Fin 11264)) = x (ix3 b t j) := congrArg (fun j => x (ix3 b t j)) (Fin.ext (show 6144 + (j.val - 6144) = j.val by omega))
    rw [ej, Ideal.absf_def, decide_eq_false hn] at e
    exact absurd e (by decide)
  refine (EReal.coe_toReal (fun h => ?_) (fun h => ?_)).symm
  · rw [h] at hlt; simp at hlt
  · rw [h] at hlt; simp at hlt

end Cert.Stick

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.RefMlpIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.RefInProjIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.RefMixOutIdeal
public import proofs.«01_k».proof.Proof.Gen.Retention
public import proofs.«01_k».proof.Proof.Gen.Retention.Skeleton
public import proofs.«01_k».proof.Proof.Gen.Retention.Launch
public import proofs.«01_k».proof.Proof.Gen.Retention.Points
public import proofs.«01_k».proof.Proof.Gen.Retention.Frame
public import proofs.«01_k».proof.Proof.Gen.RetentionIdeal
public import proofs.«01_k».proof.Proof.Gen.RetentionIdeal.Skeleton
public import proofs.«01_k».proof.Proof.Gen.RetentionIdeal.Launch
public import proofs.«01_k».proof.Proof.Gen.RetentionIdeal.Points
public import proofs.«01_k».proof.Proof.Gen.RetentionIdeal.Frame
public import proofs.«01_k».proof.Proof.Gen.KernelIdeal.Value
public import proofs.«01_k».proof.Proof.Gen.MlpIdeal.Value
public import proofs.«01_k».proof.Proof.Gen.InProjIdeal.Value
public import proofs.«01_k».proof.Proof.Gen.MixOutIdeal.Value
public import proofs.«01_k».proof.Proof.Gen.RetentionIdeal.Value
public import proofs.«01_k».proof.Proof.Gen.ReferenceIdeal.Run
public import proofs.«01_k».proof.Proof.Gen.ReferenceIdeal.Read
public import proofs.«01_k».proof.Proof.Gen.RefMlpIdeal.Run
public import proofs.«01_k».proof.Proof.Gen.RefMlpIdeal.Read
public import proofs.«01_k».proof.Proof.Gen.RefInProjIdeal.Run
public import proofs.«01_k».proof.Proof.Gen.RefInProjIdeal.Read
public import proofs.«01_k».proof.Proof.Gen.RefMixOutIdeal.Run
public import proofs.«01_k».proof.Proof.Gen.RefMixOutIdeal.Read
public import proofs.«01_k».proof.Proof.Gen.MlpInner
public import proofs.«01_k».proof.Proof.Gen.MlpInner.Skeleton
public import proofs.«01_k».proof.Proof.Gen.MlpInner.Launch
public import proofs.«01_k».proof.Proof.Gen.MlpInner.Points
public import proofs.«01_k».proof.Proof.Gen.MlpInner.Frame
public import proofs.«01_k».proof.Proof.Gen.MlpInnerIdeal
public import proofs.«01_k».proof.Proof.Gen.MlpInnerIdeal.Skeleton
public import proofs.«01_k».proof.Proof.Gen.MlpInnerIdeal.Launch
public import proofs.«01_k».proof.Proof.Gen.MlpInnerIdeal.Points
public import proofs.«01_k».proof.Proof.Gen.MlpInnerIdeal.Frame
public import proofs.«01_k».proof.Proof.Gen.MlpInnerIdeal.Value
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.RefRetentionIdeal
public import proofs.«01_k».proof.Proof.Gen.RefRetentionIdeal.Run
public import proofs.«01_k».proof.Proof.Gen.RefRetentionIdeal.Read
public import proofs.«01_k».proof.Proof.Gen.RefMlpInnerIdeal
public import proofs.«01_k».proof.Proof.Gen.RefMlpInnerIdeal.Run
public import proofs.«01_k».proof.Proof.Gen.RefMlpInnerIdeal.Read
public import proofs.«01_k».proof.Proof.Gen.RefAdaIdeal
public import proofs.«01_k».proof.Proof.Gen.RefAdaIdeal.Run
public import proofs.«01_k».proof.Proof.Gen.RefAdaIdeal.Read
public import proofs.«01_k».proof.Proof.Gen.Pre_finite_qkv
public import proofs.«01_k».proof.Proof.MlpInnerVal
public import proofs.«01_k».proof.Proof.AdaVal
public import proofs.«01_k».proof.Proof.RetVal
public import proofs.«01_k».proof.Proof.RetPre
public import proofs.«01_k».proof.Proof.MixOutVal
public import proofs.«01_k».proof.Proof.InProjVal
public import proofs.«01_k».proof.Proof.MlpVal
public import proofs.«01_k».proof.Proof.SbVal
public import proofs.«01_k».proof.Proof.SbPre
public import proofs.«01_k».proof.Proof.Gen.Pre_finite_qk
public import Idealize.ShloMosaic.Adequacy
public import Idealize.ShloMosaic.Init

@[expose] public section

noncomputable section

namespace Cert.Proof

open Idealize.ShloMosaic Idealize.SL.Sem Cert.Kernel

theorem algebraic_KernelIdeal : algebraic_KernelIdeal_ReferenceIdeal_pre_finite_qk (hKernelIdeal := Cert.KernelIdeal.Gen.facts) (hReferenceIdeal := Cert.ReferenceIdeal.Gen.facts) (hPre_finite_qk := Cert.Pre_finite_qk.Gen.facts) :=
  fun m ρ m' ρ' hp hag => ⟨fun c => Cert.ReferenceIdeal.Read.val_main_v34 (F := Ideal) (Cert.KernelIdeal.Proj.X m c),
    (θ_run _ _ _).mono (fun _ h c => ⟨(h c).1.trans (Cert.KernelIdeal.Proj.final m c
      (haveI := Cert.Pre_finite_qk.Gen.facts; Cert.Stick.real_of_pre (Cert.KernelIdeal.Proj.X m c) (hp c))), (h c).2⟩) (Cert.KernelIdeal.Value.run_blocks m ρ),
    (θ_run _ _ _).mono (fun _ h c => ⟨(h c).1.trans (by rw [Cert.ReferenceIdeal.Read.val_main_v34_eq, hag c]), (h c).2⟩) (Cert.ReferenceIdeal.Value.run m' ρ')⟩

theorem algebraic_MlpIdeal : algebraic_MlpIdeal_RefMlpIdeal (hMlpIdeal := Cert.MlpIdeal.Gen.facts) (hRefMlpIdeal := Cert.RefMlpIdeal.Gen.facts) :=
  fun m ρ m' ρ' _ hag => ⟨fun c => Cert.MlpIdeal.Proj.G m c,
    (θ_run _ _ _).mono (fun _ h c => ⟨(h c).1.trans (Cert.MlpIdeal.Proj.final m c), (h c).2⟩) (Cert.MlpIdeal.Value.run_blocks m ρ),
    (θ_run _ _ _).mono (fun _ h c => ⟨(h c).1.trans (by
      rw [Cert.RefMlpIdeal.Read.val_main_v47_eq, (hag c).1, (hag c).2.1, (hag c).2.2.1, (hag c).2.2.2.1, (hag c).2.2.2.2.1, (hag c).2.2.2.2.2]), (h c).2⟩) (Cert.RefMlpIdeal.Value.run m' ρ')⟩

theorem algebraic_InProjIdeal : algebraic_InProjIdeal_RefInProjIdeal (hInProjIdeal := Cert.InProjIdeal.Gen.facts) (hRefInProjIdeal := Cert.RefInProjIdeal.Gen.facts) :=
  fun m ρ m' ρ' _ hag => ⟨fun c => Cert.InProjIdeal.Proj.G m c,
    (θ_run _ _ _).mono (fun _ h c => ⟨(h c).1.trans (Cert.InProjIdeal.Proj.final m c), (h c).2⟩) (Cert.InProjIdeal.Value.run_blocks m ρ),
    (θ_run _ _ _).mono (fun _ h c => ⟨(h c).1.trans (by
      rw [Cert.RefInProjIdeal.Read.val_main_v26_eq, (hag c).1, (hag c).2.1, (hag c).2.2.1, (hag c).2.2.2]), (h c).2⟩) (Cert.RefInProjIdeal.Value.run m' ρ')⟩

theorem algebraic_MixOutIdeal : algebraic_MixOutIdeal_RefMixOutIdeal (hMixOutIdeal := Cert.MixOutIdeal.Gen.facts) (hRefMixOutIdeal := Cert.RefMixOutIdeal.Gen.facts) :=
  fun m ρ m' ρ' _ hag => ⟨fun c => Cert.MixOutIdeal.Proj.G m c,
    (θ_run _ _ _).mono (fun _ h c => ⟨(h c).1.trans (Cert.MixOutIdeal.Proj.final m c), (h c).2⟩) (Cert.MixOutIdeal.Value.run_blocks m ρ),
    (θ_run _ _ _).mono (fun _ h c => ⟨(h c).1.trans (by
      rw [Cert.RefMixOutIdeal.Read.val_main_v29_eq, (hag c).1, (hag c).2.1, (hag c).2.2.1, (hag c).2.2.2.1, (hag c).2.2.2.2.1, (hag c).2.2.2.2.2.1, (hag c).2.2.2.2.2.2.1, (hag c).2.2.2.2.2.2.2]), (h c).2⟩) (Cert.RefMixOutIdeal.Value.run m' ρ')⟩

theorem algebraic_MlpInnerIdeal : algebraic_MlpInnerIdeal_RefMlpInnerIdeal (hMlpInnerIdeal := Cert.MlpInnerIdeal.Gen.facts) (hRefMlpInnerIdeal := Cert.RefMlpInnerIdeal.Gen.facts) :=
  fun m ρ m' ρ' _ hag => ⟨fun c => Cert.MlpInnerIdeal.Proj.G m c,
    (θ_run _ _ _).mono (fun _ h c => ⟨(h c).1.trans (Cert.MlpInnerIdeal.Proj.final m c), (h c).2⟩) (Cert.MlpInnerIdeal.Value.run_blocks m ρ),
    (θ_run _ _ _).mono (fun _ h c => ⟨(h c).1.trans (by
      rw [Cert.RefMlpInnerIdeal.Read.val_main_v34_eq, (hag c).1, (hag c).2.1, (hag c).2.2.1, (hag c).2.2.2.1, (hag c).2.2.2.2.1]), (h c).2⟩) (Cert.RefMlpInnerIdeal.Value.run m' ρ')⟩

theorem algebraic_AdaIdeal : algebraic_AdaIdeal_RefAdaIdeal (hAdaIdeal := Cert.AdaIdeal.Gen.facts) (hRefAdaIdeal := Cert.RefAdaIdeal.Gen.facts) :=
  fun m ρ m' ρ' _ hag => ⟨fun c => Cert.AdaIdeal.Proj.G m c,
    (θ_run _ _ _).mono (fun _ h c => ⟨(h c).1.trans (Cert.AdaIdeal.Proj.final m c), (h c).2⟩) (Cert.AdaIdeal.Value.run_blocks m ρ),
    (θ_run _ _ _).mono (fun _ h c => ⟨(h c).1.trans (by
      rw [Cert.RefAdaIdeal.Read.val_main_v5_eq, (hag c).1, (hag c).2.1, (hag c).2.2]), (h c).2⟩) (Cert.RefAdaIdeal.Value.run m' ρ')⟩

theorem algebraic_RetentionIdeal : algebraic_RetentionIdeal_RefRetentionIdeal_pre_finite_qkv (hRetentionIdeal := Cert.RetentionIdeal.Gen.facts) (hRefRetentionIdeal := Cert.RefRetentionIdeal.Gen.facts) (hPre_finite_qkv := Cert.Pre_finite_qkv.Gen.facts) :=
  fun m ρ m' ρ' hp hag => ⟨fun c => Cert.RefRetentionIdeal.Read.val_main_v126 (F := Ideal) (Cert.RetentionIdeal.Proj.X m c),
    (θ_run _ _ _).mono (fun _ h c => ⟨(h c).1.trans (Cert.RetentionIdeal.Proj.final m c
      (haveI := Cert.Pre_finite_qkv.Gen.facts; Cert.Ret.real_of_pre (Cert.RetentionIdeal.Proj.X m c) (hp c))), (h c).2⟩) (Cert.RetentionIdeal.Value.run_blocks m ρ),
    (θ_run _ _ _).mono (fun _ h c => ⟨(h c).1.trans (by rw [Cert.RefRetentionIdeal.Read.val_main_v126_eq, hag c]), (h c).2⟩) (Cert.RefRetentionIdeal.Value.run m' ρ')⟩

theorem claim : Cert.Claim := ⟨Cert.Kernel.Gen.facts, Cert.KernelIdeal.Gen.facts, Cert.ReferenceIdeal.Gen.facts, Cert.Mlp.Gen.facts, Cert.MlpIdeal.Gen.facts, Cert.RefMlpIdeal.Gen.facts, Cert.InProj.Gen.facts, Cert.InProjIdeal.Gen.facts, Cert.RefInProjIdeal.Gen.facts, Cert.MixOut.Gen.facts, Cert.MixOutIdeal.Gen.facts, Cert.RefMixOutIdeal.Gen.facts, Cert.Retention.Gen.facts, Cert.RetentionIdeal.Gen.facts, Cert.RefRetentionIdeal.Gen.facts, Cert.MlpInner.Gen.facts, Cert.MlpInnerIdeal.Gen.facts, Cert.RefMlpInnerIdeal.Gen.facts, Cert.Ada.Gen.facts, Cert.AdaIdeal.Gen.facts, Cert.RefAdaIdeal.Gen.facts, Cert.Pre_finite_qk.Gen.facts, Cert.Pre_finite_qkv.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun _ h => ⟨fun c => (h c).2, sem_eq_zero_of_no_sems (by decide) _⟩) (Cert.ReferenceIdeal.Value.run m ρ),
  fun m ρ _ => (θ_run _ _ _).mono (fun _ h => ⟨fun c => (h c).2, sem_eq_zero_of_no_sems (by decide) _⟩) (Cert.ReferenceIdeal.Value.run m ρ),
  fun m ρ _ => Cert.Mlp.Gen.frame m ρ,
  fun m ρ _ => Cert.MlpIdeal.Gen.frame m ρ,
  fun m ρ _ => (θ_run _ _ _).mono (fun _ h => ⟨fun c => (h c).2, sem_eq_zero_of_no_sems (by decide) _⟩) (Cert.RefMlpIdeal.Value.run m ρ),
  fun m ρ _ => Cert.InProj.Gen.frame m ρ,
  fun m ρ _ => Cert.InProjIdeal.Gen.frame m ρ,
  fun m ρ _ => (θ_run _ _ _).mono (fun _ h => ⟨fun c => (h c).2, sem_eq_zero_of_no_sems (by decide) _⟩) (Cert.RefInProjIdeal.Value.run m ρ),
  fun m ρ _ => Cert.MixOut.Gen.frame m ρ,
  fun m ρ _ => Cert.MixOutIdeal.Gen.frame m ρ,
  fun m ρ _ => (θ_run _ _ _).mono (fun _ h => ⟨fun c => (h c).2, sem_eq_zero_of_no_sems (by decide) _⟩) (Cert.RefMixOutIdeal.Value.run m ρ),
  fun m ρ _ => Cert.Retention.Gen.frame m ρ,
  fun m ρ _ => Cert.RetentionIdeal.Gen.frame m ρ,
  fun m ρ _ => Cert.RetentionIdeal.Gen.frame m ρ,
  fun m ρ _ => (θ_run _ _ _).mono (fun _ h => ⟨fun c => (h c).2, sem_eq_zero_of_no_sems (by decide) _⟩) (Cert.RefRetentionIdeal.Value.run m ρ),
  fun m ρ _ => (θ_run _ _ _).mono (fun _ h => ⟨fun c => (h c).2, sem_eq_zero_of_no_sems (by decide) _⟩) (Cert.RefRetentionIdeal.Value.run m ρ),
  fun m ρ _ => Cert.MlpInner.Gen.frame m ρ,
  fun m ρ _ => Cert.MlpInnerIdeal.Gen.frame m ρ,
  fun m ρ _ => (θ_run _ _ _).mono (fun _ h => ⟨fun c => (h c).2, sem_eq_zero_of_no_sems (by decide) _⟩) (Cert.RefMlpInnerIdeal.Value.run m ρ),
  fun m ρ _ => Cert.Ada.Gen.frame m ρ,
  fun m ρ _ => Cert.AdaIdeal.Gen.frame m ρ,
  fun m ρ _ => (θ_run _ _ _).mono (fun _ h => ⟨fun c => (h c).2, sem_eq_zero_of_no_sems (by decide) _⟩) (Cert.RefAdaIdeal.Value.run m ρ),
  trivial,
  algebraic_KernelIdeal,
  trivial,
  algebraic_MlpIdeal,
  trivial,
  algebraic_InProjIdeal,
  trivial,
  algebraic_MixOutIdeal,
  trivial,
  algebraic_RetentionIdeal,
  trivial,
  algebraic_MlpInnerIdeal,
  trivial,
  algebraic_AdaIdeal⟩

end Cert.Proof

end
